-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)) (v3 : (c : Dev Cert.Kernel2Ideal.nD) → Buf (Elt Ideal) ((c.tc : Thread Cert.Kernel2Ideal.nD Cert.Kernel2Ideal.τ).loc Cert.Kernel2Ideal.main_v26_3)) (v4 : (c : Dev Cert.Kernel2Ideal.nD) → Buf (Elt Ideal) ((c.tc : Thread Cert.Kernel2Ideal.nD Cert.Kernel2Ideal.τ).loc Cert.Kernel2Ideal.main_v26_4)) (v5 : (c : Dev Cert.Kernel2Ideal.nD) → Buf (Elt Ideal) ((c.tc : Thread Cert.Kernel2Ideal.nD Cert.Kernel2Ideal.τ).loc Cert.Kernel2Ideal.main_v26_5)) (v6 : (c : Dev Cert.Kernel2Ideal.nD) → Buf (Elt Ideal) ((c.tc : Thread Cert.Kernel2Ideal.nD Cert.Kernel2Ideal.τ).loc Cert.Kernel2Ideal.main_v26_6)) (v7 : (c : Dev Cert.Kernel2Ideal.nD) → Buf (Elt Ideal) ((c.tc : Thread Cert.Kernel2Ideal.nD Cert.Kernel2Ideal.τ).loc Cert.Kernel2Ideal.main_v26_7)) (v8 : (c : Dev Cert.Kernel2Ideal.nD) → Buf (Elt Ideal) ((c.tc : Thread Cert.Kernel2Ideal.nD Cert.Kernel2Ideal.τ).loc Cert.Kernel2Ideal.main_v26_8)) (v9 : (c : Dev Cert.Kernel2Ideal.nD) → Buf (Elt Ideal) ((c.tc : Thread Cert.Kernel2Ideal.nD Cert.Kernel2Ideal.τ).loc Cert.Kernel2Ideal.main_v26_9)) (v10 : (c : Dev Cert.Kernel2Ideal.nD) → Buf (Elt Ideal) ((c.tc : Thread Cert.Kernel2Ideal.nD Cert.Kernel2Ideal.τ).loc Cert.Kernel2Ideal.main_v26_10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_v26_3) = v3 c
          ∧ r.2.mem ((c.tc : Thread Cert.Kernel2Ideal.nD Cert.Kernel2Ideal.τ).loc Cert.Kernel2Ideal.main_v26_4) = v4 c
          ∧ r.2.mem ((c.tc : Thread Cert.Kernel2Ideal.nD Cert.Kernel2Ideal.τ).loc Cert.Kernel2Ideal.main_v26_5) = v5 c
          ∧ r.2.mem ((c.tc : Thread Cert.Kernel2Ideal.nD Cert.Kernel2Ideal.τ).loc Cert.Kernel2Ideal.main_v26_6) = v6 c
          ∧ r.2.mem ((c.tc : Thread Cert.Kernel2Ideal.nD Cert.Kernel2Ideal.τ).loc Cert.Kernel2Ideal.main_v26_7) = v7 c
          ∧ r.2.mem ((c.tc : Thread Cert.Kernel2Ideal.nD Cert.Kernel2Ideal.τ).loc Cert.Kernel2Ideal.main_v26_8) = v8 c
          ∧ r.2.mem ((c.tc : Thread Cert.Kernel2Ideal.nD Cert.Kernel2Ideal.τ).loc Cert.Kernel2Ideal.main_v26_9) = v9 c
          ∧ r.2.mem ((c.tc : Thread Cert.Kernel2Ideal.nD Cert.Kernel2Ideal.τ).loc Cert.Kernel2Ideal.main_v26_10) = v10 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v40) = v1 c
          ∧ r.2.mem ((c.tc : Thread Cert.Reference2Ideal.nD Cert.Reference2Ideal.τ).loc Cert.Reference2Ideal.main_v41) = v2 c
          ∧ r.2.mem ((c.tc : Thread Cert.Reference2Ideal.nD Cert.Reference2Ideal.τ).loc Cert.Reference2Ideal.main_v42) = v3 c
          ∧ r.2.mem ((c.tc : Thread Cert.Reference2Ideal.nD Cert.Reference2Ideal.τ).loc Cert.Reference2Ideal.main_v43) = v4 c
          ∧ r.2.mem ((c.tc : Thread Cert.Reference2Ideal.nD Cert.Reference2Ideal.τ).loc Cert.Reference2Ideal.main_v44) = v5 c
          ∧ r.2.mem ((c.tc : Thread Cert.Reference2Ideal.nD Cert.Reference2Ideal.τ).loc Cert.Reference2Ideal.main_v45) = v6 c
          ∧ r.2.mem ((c.tc : Thread Cert.Reference2Ideal.nD Cert.Reference2Ideal.τ).loc Cert.Reference2Ideal.main_v46) = v7 c
          ∧ r.2.mem ((c.tc : Thread Cert.Reference2Ideal.nD Cert.Reference2Ideal.τ).loc Cert.Reference2Ideal.main_v47) = v8 c
          ∧ r.2.mem ((c.tc : Thread Cert.Reference2Ideal.nD Cert.Reference2Ideal.τ).loc Cert.Reference2Ideal.main_v48) = v9 c
          ∧ r.2.mem ((c.tc : Thread Cert.Reference2Ideal.nD Cert.Reference2Ideal.τ).loc Cert.Reference2Ideal.main_v54) = v10 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S32 : Shape := ⟨1, ![32]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S32x1x1024 : Shape := ⟨3, ![32, 1, 1024]⟩
abbrev S1179648x128 : Shape := ⟨2, ![1179648, 128]⟩
abbrev S4096x128 : Shape := ⟨2, ![4096, 128]⟩
abbrev S1x1024x2048 : Shape := ⟨3, ![1, 1024, 2048]⟩
abbrev S1x1x1024 : Shape := ⟨3, ![1, 1, 1024]⟩
abbrev S1x1024x1024 : Shape := ⟨3, ![1, 1024, 1024]⟩
abbrev S1024x1024 : Shape := ⟨2, ![1024, 1024]⟩
abbrev S8x256x128 : Shape := ⟨3, ![8, 256, 128]⟩
abbrev S1x1024x256 : Shape := ⟨3, ![1, 1024, 256]⟩
abbrev S1024x256 : Shape := ⟨2, ![1024, 256]⟩
abbrev S256x1024 : Shape := ⟨2, ![256, 1024]⟩
abbrev S256x128 : Shape := ⟨2, ![256, 128]⟩
abbrev S1x256x128 : Shape := ⟨3, ![1, 256, 128]⟩
abbrev S1x128x128 : Shape := ⟨3, ![1, 128, 128]⟩
abbrev S128x128 : Shape := ⟨2, ![128, 128]⟩
abbrev S128x1024 : Shape := ⟨2, ![128, 1024]⟩
abbrev S512x128 : Shape := ⟨2, ![512, 128]⟩
abbrev S512x1024 : Shape := ⟨2, ![512, 1024]⟩
abbrev S1x1024 : Shape := ⟨2, ![1, 1024]⟩

abbrev nBuf : Space → Nat
  | .hbm => 76
  | .vmem => 17
  | .smem => 2
  | _ => 0

abbrev bufTy : (tb : Table) → Fin (tcTables nBuf tb) → BufTy
  | .hbm, ⟨0, _⟩ => ⟨S32, .i32⟩
  | .hbm, ⟨1, _⟩ => ⟨S147456x1024, .f32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S_, .i32⟩
  | .hbm, ⟨34, _⟩ => ⟨S_, .i32⟩
  | .hbm, ⟨35, _⟩ => ⟨S32, .i32⟩
  | .hbm, ⟨36, _⟩ => ⟨S288, .i32⟩
  | .hbm, ⟨37, _⟩ => ⟨S_, .i32⟩
  | .hbm, ⟨38, _⟩ => ⟨S288, .i32⟩
  | .hbm, ⟨39, _⟩ => ⟨S288, .i32⟩
  | .hbm, ⟨40, _⟩ => ⟨S1x32, .i32⟩
  | .hbm, ⟨41, _⟩ => ⟨S288x1, .i32⟩
  | .hbm, ⟨42, _⟩ => ⟨S288x32, .i32⟩
  | .hbm, ⟨43, _⟩ => ⟨S288x32, .i32⟩
  | .hbm, ⟨44, _⟩ => ⟨S288x32, .i1⟩
  | .hbm, ⟨45, _⟩ => ⟨S288x32, .i32⟩
  | .hbm, ⟨46, _⟩ => ⟨S_, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S32x1024, .f32⟩
  | .hbm, ⟨69, _⟩ => ⟨S32x1x1024, .f32⟩
  | .hbm, ⟨70, _⟩ => ⟨S32x1024, .f32⟩
  | .hbm, ⟨71, _⟩ => ⟨S32x1x1024, .f32⟩
  | .hbm, ⟨72, _⟩ => ⟨S1179648x128, .f32⟩
  | .hbm, ⟨73, _⟩ => ⟨S32x1024x1024, .bf16⟩
  | .hbm, ⟨74, _⟩ => ⟨S32x1x1024, .f32⟩
  | .hbm, ⟨75, _⟩ => ⟨S1179648x128, .f32⟩
  | .local _ .vmem, ⟨0, _⟩ => ⟨S4096x128, .f32⟩
  | .local _ .vmem, ⟨1, _⟩ => ⟨S4096x128, .f32⟩
  | .local _ .vmem, ⟨2, _⟩ => ⟨S1x1024x2048, .f32⟩
  | .local _ .vmem, ⟨3, _⟩ => ⟨S1x1024x2048, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1x1024, .f32⟩
  | .local _ .vmem, ⟨8, _⟩ => ⟨S1x1024x1024, .bf16⟩
  | .local _ .vmem, ⟨9, _⟩ => ⟨S1x1024x1024, .bf16⟩
  | .local _ .vmem, ⟨10, _⟩ => ⟨S1x1x1024, .f32⟩
  | .local _ .vmem, ⟨11, _⟩ => ⟨S1x1x1024, .f32⟩
  | .local _ .vmem, ⟨12, _⟩ => ⟨S4096x128, .f32⟩
  | .local _ .vmem, ⟨13, _⟩ => ⟨S4096x128, .f32⟩
  | .local _ .vmem, ⟨14, _⟩ => ⟨S1024x1024, .bf16⟩
  | .local _ .vmem, ⟨15, _⟩ => ⟨S1024x1024, .bf16⟩
  | .local _ .vmem, ⟨16, _⟩ => ⟨S8x256x128, .f32⟩
  | .local _ .smem, ⟨0, _⟩ => ⟨S288, .i32⟩
  | .local _ .smem, ⟨1, _⟩ => ⟨S1, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_c_3 : Ref sig .tc := ⟨.hbm, 37, rfl⟩
abbrev main_v9 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v0 : BitVec 32) : BitVec 1 :=
  let arg0 : BitVec 32 := BitVec.ofNat 32 (i 0).val
  let v1 : BitVec 1 := Scalar.cmpi .slt arg0 v0
  let v_true : BitVec 1 := 1#1
  let v16 : BitVec 1 := Scalar.xori v1 v_true
  let v17 : BitVec 32 := Scalar.extui v16
  let c0_i32_3 : BitVec 32 := 0#32
  let v18 : BitVec 1 := Scalar.cmpi .ne v17 c0_i32_3
  v18

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4096x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S32 : Shape := ⟨1, ![32]⟩
abbrev S147456x1024 : Shape := ⟨2, ![147456, 1024]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S288 : Shape := ⟨1, ![288]⟩
abbrev S1x32 : Shape := ⟨2, ![1, 32]⟩
abbrev S288x1 : Shape := ⟨2, ![288, 1]⟩
abbrev S288x32 : Shape := ⟨2, ![288, 32]⟩
abbrev S288x512x1024 : Shape := ⟨3, ![288, 512, 1024]⟩
abbrev S288x1024x2048 : Shape := ⟨3, ![288, 1024, 2048]⟩
abbrev S288x512x2048 : Shape := ⟨3, ![288, 512, 2048]⟩
abbrev S288x2048 : Shape := ⟨2, ![288, 2048]⟩
abbrev S288x1x2048 : Shape := ⟨3, ![288, 1, 2048]⟩
abbrev S288x1024x1024 : Shape := ⟨3, ![288, 1024, 1024]⟩
abbrev S288x1024 : Shape := ⟨2, ![288, 1024]⟩
abbrev S288x1x1024 : Shape := ⟨3, ![288, 1, 1024]⟩
abbrev S1 : Shape := ⟨1, ![1]⟩
abbrev S288x1x1 : Shape := ⟨3, ![288, 1, 1]⟩
abbrev S1179648x128 : Shape := ⟨2, ![1179648, 128]⟩

abbrev nBuf : Space → Nat
  | .hbm => 149
  | .vmem => 0
  | .smem => 0
  | _ => 0

abbrev hbmTy0_0 (i : Nat) : BufTy := match i % 128 with
  | 0 => ⟨S32, .i32⟩
  | 1 => ⟨S147456x1024, .f32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S288, .i32⟩
  | 37 => ⟨S1x32, .i32⟩
  | 38 => ⟨S288x1, .i32⟩
  | 39 => ⟨S_, .i32⟩
  | 40 => ⟨S288x1, .i32⟩
  | 41 => ⟨S288x1, .i32⟩
  | 42 => ⟨S288x32, .i32⟩
  | 43 => ⟨S288x32, .i32⟩
  | 44 => ⟨S288x32, .i1⟩
  | 45 => ⟨S288x32, .i32⟩
  | 46 => ⟨S_, .i32⟩
  | 47 => ⟨S288, .i32⟩
  | 48 => ⟨S_, .i32⟩
  | 49 => ⟨S288, .i32⟩
  | 50 => ⟨S288, .i32⟩
  | 51 => ⟨S288x512x1024, .f32⟩
  | 52 => ⟨S_, .i32⟩
  | 53 => ⟨S288, .i32⟩
  | 54 => ⟨S288, .i1⟩
  | 55 => ⟨S_, .i32⟩
  | 56 => ⟨S288, .i32⟩
  | 57 => ⟨S288, .i32⟩
  | 58 => ⟨S288, .i32⟩
  | 59 => ⟨S288x1, .i32⟩
  | 60 => ⟨S288x1024x2048, .f32⟩
  | 61 => ⟨S288x512x2048, .f32⟩
  | 62 => ⟨S_, .i32⟩
  | 63 => ⟨S288, .i32⟩
  | 64 => ⟨S288, .i1⟩
  | 65 => ⟨S_, .i32⟩
  | 66 => ⟨S288, .i32⟩
  | 67 => ⟨S288, .i32⟩
  | 68 => ⟨S288, .i32⟩
  | 69 => ⟨S288x1, .i32⟩
  | 70 => ⟨S288x2048, .f32⟩
  | 71 => ⟨S288x1x2048, .f32⟩
  | 72 => ⟨S288x512x2048, .f32⟩
  | 73 => ⟨S288x512x2048, .f32⟩
  | 74 => ⟨S288x512x1024, .f32⟩
  | 75 => ⟨S_, .f32⟩
  | 76 => ⟨S288x512x1024, .f32⟩
  | 77 => ⟨S288x512x1024, .f32⟩
  | 78 => ⟨S288x512x1024, .f32⟩
  | 79 => ⟨S_, .f32⟩
  | 80 => ⟨S_, .f32⟩
  | 81 => ⟨S_, .f32⟩
  | 82 => ⟨S288x512x1024, .f32⟩
  | 83 => ⟨S288x512x1024, .f32⟩
  | 84 => ⟨S_, .f32⟩
  | 85 => ⟨S288x512x1024, .f32⟩
  | 86 => ⟨S288x512x1024, .f32⟩
  | 87 => ⟨S_, .f32⟩
  | 88 => ⟨S288x512x1024, .f32⟩
  | 89 => ⟨S288x512x1024, .f32⟩
  | 90 => ⟨S288x512x1024, .f32⟩
  | 91 => ⟨S288x512x1024, .f32⟩
  | 92 => ⟨S_, .f32⟩
  | 93 => ⟨S288x512x1024, .f32⟩
  | 94 => ⟨S288x512x1024, .f32⟩
  | 95 => ⟨S_, .f32⟩
  | 96 => ⟨S288x512x1024, .f32⟩
  | 97 => ⟨S288x512x1024, .f32⟩
  | 98 => ⟨S288x512x1024, .f32⟩
  | 99 => ⟨S_, .f32⟩
  | 100 => ⟨S288x512x1024, .f32⟩
  | 101 => ⟨S288x512x1024, .f32⟩
  | 102 => ⟨S288x512x1024, .f32⟩
  | 103 => ⟨S_, .i32⟩
  | 104 => ⟨S288, .i32⟩
  | 105 => ⟨S288, .i1⟩
  | 106 => ⟨S_, .i32⟩
  | 107 => ⟨S288, .i32⟩
  | 108 => ⟨S288, .i32⟩
  | 109 => ⟨S288, .i32⟩
  | 110 => ⟨S288x1, .i32⟩
  | 111 => ⟨S288x1024x1024, .f32⟩
  | 112 => ⟨S288x512x1024, .f32⟩
  | 113 => ⟨S_, .i32⟩
  | 114 => ⟨S288, .i32⟩
  | 115 => ⟨S288, .i1⟩
  | 116 => ⟨S_, .i32⟩
  | 117 => ⟨S288, .i32⟩
  | 118 => ⟨S288, .i32⟩
  | 119 => ⟨S288, .i32⟩
  | 120 => ⟨S288x1, .i32⟩
  | 121 => ⟨S288x1024, .f32⟩
  | 122 => ⟨S288x1x1024, .f32⟩
  | 123 => ⟨S288x512x1024, .f32⟩
  | 124 => ⟨S288x512x1024, .f32⟩
  | 125 => ⟨S1, .i32⟩
  | 126 => ⟨S_, .i32⟩
  | 127 => ⟨S_, .i32⟩
  | _ => ⟨S32, .i32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i1⟩
  | 5 => ⟨S_, .i32⟩
  | 6 => ⟨S_, .i32⟩
  | 7 => ⟨S_, .i1⟩
  | 8 => ⟨S_, .i1⟩
  | 9 => ⟨S_, .i32⟩
  | 10 => ⟨S_, .i32⟩
  | 11 => ⟨S_, .i32⟩
  | 12 => ⟨S288, .i32⟩
  | 13 => ⟨S288, .i1⟩
  | 14 => ⟨S288x1x1, .i1⟩
  | 15 => ⟨S_, .f32⟩
  | 16 => ⟨S_, .f32⟩
  | 17 => ⟨S288x512x1024, .i1⟩
  | 18 => ⟨S288x512x1024, .f32⟩
  | 19 => ⟨S288x512x1024, .f32⟩
  | 20 => ⟨S1179648x128, .f32⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_c_3 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_c_6 : Ref sig .tc := ⟨.hbm, 52, rfl⟩
abbrev main_v21 : Ref sig .tc := ⟨.hbm, 53, rfl⟩
abbrev main_v22 : Ref sig .tc := ⟨.hbm, 54, rfl⟩
abbrev main_c_7 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_c_8 : Ref sig .tc := ⟨.hbm, 62, rfl⟩
abbrev main_v29 : Ref sig .tc := ⟨.hbm, 63, rfl⟩
abbrev main_v30 : Ref sig .tc := ⟨.hbm, 64, rfl⟩
abbrev main_c_9 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_cst : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_10 : Ref sig .tc := ⟨.hbm, 79, rfl⟩
abbrev main_cst_11 : Ref sig .tc := ⟨.hbm, 80, rfl⟩
abbrev main_call2_v0 : Ref sig .tc := ⟨.hbm, 81, rfl⟩
abbrev main_call2_v1 : Ref sig .tc := ⟨.hbm, 82, rfl⟩
abbrev main_call2_v2 : Ref sig .tc := ⟨.hbm, 83, rfl⟩
abbrev main_call2_v3 : Ref sig .tc := ⟨.hbm, 84, rfl⟩
abbrev main_call2_v4 : Ref sig .tc := ⟨.hbm, 85, rfl⟩
abbrev main_v43 : Ref sig .tc := ⟨.hbm, 86, rfl⟩
abbrev main_cst_12 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_cst_13 : Ref sig .tc := ⟨.hbm, 92, rfl⟩
abbrev main_v48 : Ref sig .tc := ⟨.hbm, 93, rfl⟩
abbrev main_v49 : Ref sig .tc := ⟨.hbm, 94, rfl⟩
abbrev main_cst_14 : Ref sig .tc := ⟨.hbm, 95, rfl⟩
abbrev main_v50 : Ref sig .tc := ⟨.hbm, 96, rfl⟩
abbrev main_v51 : Ref sig .tc := ⟨.hbm, 97, rfl⟩
abbrev main_v52 : Ref sig .tc := ⟨.hbm, 98, rfl⟩
abbrev main_cst_15 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_c_16 : Ref sig .tc := ⟨.hbm, 103, rfl⟩
abbrev main_v56 : Ref sig .tc := ⟨.hbm, 104, rfl⟩
abbrev main_v57 : Ref sig .tc := ⟨.hbm, 105, rfl⟩
abbrev main_c_17 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_v62 : Ref sig .tc := ⟨.hbm, 111, rfl⟩
abbrev main_v63 : Ref sig .tc := ⟨.hbm, 112, rfl⟩
abbrev main_c_18 : Ref sig .tc := ⟨.hbm, 113, rfl⟩
abbrev main_v64 : Ref sig .tc := ⟨.hbm, 114, rfl⟩
abbrev main_v65 : Ref sig .tc := ⟨.hbm, 115, rfl⟩
abbrev main_c_19 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_v69 : Ref sig .tc := ⟨.hbm, 120, rfl⟩
abbrev main_v70 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_c_20 : Ref sig .tc := ⟨.hbm, 127, rfl⟩
abbrev main_call3_v0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_c : Ref sig .tc := ⟨.hbm, 134, rfl⟩
abbrev main_call3_v6 : Ref sig .tc := ⟨.hbm, 135, rfl⟩
abbrev main_call3_v7 : Ref sig .tc := ⟨.hbm, 136, rfl⟩
abbrev main_call3_c_0 : Ref sig .tc := ⟨.hbm, 137, rfl⟩
abbrev main_call3_v8 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_cst_21 : Ref sig .tc := ⟨.hbm, 143, rfl⟩
abbrev main_call4_v0 : Ref sig .tc := ⟨.hbm, 144, rfl⟩
abbrev main_call4_v1 : Ref sig .tc := ⟨.hbm, 145, rfl⟩
abbrev main_call4_v2 : Ref sig .tc := ⟨.hbm, 146, rfl⟩
abbrev main_v80 : Ref sig .tc := ⟨.hbm, 147, rfl⟩
abbrev main_v81 : Ref sig .tc := ⟨.hbm, 148, rfl⟩

abbrev nD : Nat := 1
abbrev τ : Topo := Topo.v7x

variable {F : FTy → Type} [FloatOps F]
-- ==== Kernel2.lean ====
abbrev S4x8192x1024 : Shape := ⟨3, ![4, 8192, 1024]⟩
abbrev S1024 : Shape := ⟨1, ![1024]⟩
abbrev S1024x2840 : Shape := ⟨2, ![1024, 2840]⟩
abbrev S1024x512 : Shape := ⟨2, ![1024, 512]⟩
abbrev S1024x128 : Shape := ⟨2, ![1024, 128]⟩
abbrev S1024x24 : Shape := ⟨2, ![1024, 24]⟩
abbrev S1024x1024 : Shape := ⟨2, ![1024, 1024]⟩
abbrev S_ : Shape := ⟨0, ![]⟩
abbrev S1024x1792 : Shape := ⟨2, ![1024, 1792]⟩
abbrev S1792x1024 : Shape := ⟨2, ![1792, 1024]⟩
abbrev S1024x2x4x3 : Shape := ⟨4, ![1024, 2, 4, 3]⟩
abbrev S2x3x4x1024 : Shape := ⟨4, ![2, 3, 4, 1024]⟩
abbrev S2x12x1024 : Shape := ⟨3, ![2, 12, 1024]⟩
abbrev S2x16x1024 : Shape := ⟨3, ![2, 16, 1024]⟩
abbrev S32x1024 : Shape := ⟨2, ![32, 1024]⟩
abbrev S1x1024 : Shape := ⟨2, ![1, 1024]⟩
abbrev S4x8192x512 : Shape := ⟨3, ![4, 8192, 512]⟩
abbrev S4x8192x128 : Shape := ⟨3, ![4, 8192, 128]⟩
abbrev S4x512x8192 : Shape := ⟨3, ![4, 512, 8192]⟩
abbrev S4x128x8192 : Shape := ⟨3, ![4, 128, 8192]⟩
abbrev S4x32x8192 : Shape := ⟨3, ![4, 32, 8192]⟩
abbrev S1x512x1024 : Shape := ⟨3, ![1, 512, 1024]⟩
abbrev S1x512x512 : Shape := ⟨3, ![1, 512, 512]⟩
abbrev S1x512x128 : Shape := ⟨3, ![1, 512, 128]⟩
abbrev S1x128x512 : Shape := ⟨3, ![1, 128, 512]⟩
abbrev S1x32x512 : Shape := ⟨3, ![1, 32, 512]⟩
abbrev S512x1024 : Shape := ⟨2, ![512, 1024]⟩
abbrev S512 : Shape := ⟨1, ![512]⟩
abbrev S512x1 : Shape := ⟨2, ![512, 1]⟩
abbrev S512x512 : Shape := ⟨2, ![512, 512]⟩
abbrev S512x128 : Shape := ⟨2, ![512, 128]⟩
abbrev S1792x512 : Shape := ⟨2, ![1792, 512]⟩
abbrev S128x512 : Shape := ⟨2, ![128, 512]⟩
abbrev S32x512 : Shape := ⟨2, ![32, 512]⟩

abbrev nBuf : Space → Nat
  | .hbm => 44
  | .vmem => 28
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2840, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x128, .f32⟩
  | .hbm, ⟨8, _⟩ => ⟨S1024x128, .f32⟩
  | .hbm, ⟨9, _⟩ => ⟨S1024x128, .f32⟩
  | .hbm, ⟨10, _⟩ => ⟨S1024x128, .f32⟩
  | .hbm, ⟨11, _⟩ => ⟨S1024x128, .f32⟩
  | .hbm, ⟨12, _⟩ => ⟨S1024x128, .f32⟩
  | .hbm, ⟨13, _⟩ => ⟨S1024x24, .f32⟩
  | .hbm, ⟨14, _⟩ => ⟨S1024x1024, .f32⟩
  | .hbm, ⟨15, _⟩ => ⟨S1024x1024, .bf16⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S_, .f32⟩
  | .hbm, ⟨20, _⟩ => ⟨S1024x512, .f32⟩
  | .hbm, ⟨21, _⟩ => ⟨S1024x512, .f32⟩
  | .hbm, ⟨22, _⟩ => ⟨S1024x1792, .f32⟩
  | .hbm, ⟨23, _⟩ => ⟨S1792x1024, .f32⟩
  | .hbm, ⟨24, _⟩ => ⟨S1792x1024, .bf16⟩
  | .hbm, ⟨25, _⟩ => ⟨S1024x2x4x3, .f32⟩
  | .hbm, ⟨26, _⟩ => ⟨S2x3x4x1024, .f32⟩
  | .hbm, ⟨27, _⟩ => ⟨S2x12x1024, .f32⟩
  | .hbm, ⟨28, _⟩ => ⟨S_, .i32⟩
  | .hbm, ⟨29, _⟩ => ⟨S_, .f32⟩
  | .hbm, ⟨30, _⟩ => ⟨S2x16x1024, .f32⟩
  | .hbm, ⟨31, _⟩ => ⟨S32x1024, .f32⟩
  | .hbm, ⟨32, _⟩ => ⟨S1x1024, .f32⟩
  | .hbm, ⟨33, _⟩ => ⟨S4x8192x512, .bf16⟩
  | .hbm, ⟨34, _⟩ => ⟨S4x8192x128, .bf16⟩
  | .hbm, ⟨35, _⟩ => ⟨S4x8192x128, .bf16⟩
  | .hbm, ⟨36, _⟩ => ⟨S4x8192x128, .bf16⟩
  | .hbm, ⟨37, _⟩ => ⟨S4x8192x128, .bf16⟩
  | .hbm, ⟨38, _⟩ => ⟨S4x512x8192, .bf16⟩
  | .hbm, ⟨39, _⟩ => ⟨S4x512x8192, .bf16⟩
  | .hbm, ⟨40, _⟩ => ⟨S4x512x8192, .bf16⟩
  | .hbm, ⟨41, _⟩ => ⟨S4x128x8192, .bf16⟩
  | .hbm, ⟨42, _⟩ => ⟨S4x128x8192, .bf16⟩
  | .hbm, ⟨43, _⟩ => ⟨S4x32x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x1024, .bf16⟩
  | .local _ .vmem, ⟨4, _⟩ => ⟨S1792x1024, .bf16⟩
  | .local _ .vmem, ⟨5, _⟩ => ⟨S32x1024, .f32⟩
  | .local _ .vmem, ⟨6, _⟩ => ⟨S1x512x512, .bf16⟩
  | .local _ .vmem, ⟨7, _⟩ => ⟨S1x512x512, .bf16⟩
  | .local _ .vmem, ⟨8, _⟩ => ⟨S1x512x128, .bf16⟩
  | .local _ .vmem, ⟨9, _⟩ => ⟨S1x512x128, .bf16⟩
  | .local _ .vmem, ⟨10, _⟩ => ⟨S1x512x128, .bf16⟩
  | .local _ .vmem, ⟨11, _⟩ => ⟨S1x512x128, .bf16⟩
  | .local _ .vmem, ⟨12, _⟩ => ⟨S1x512x128, .bf16⟩
  | .local _ .vmem, ⟨13, _⟩ => ⟨S1x512x128, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x512, .bf16⟩
  | .local _ .vmem, ⟨17, _⟩ => ⟨S1x512x512, .bf16⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x128x512, .bf16⟩
  | .local _ .vmem, ⟨23, _⟩ => ⟨S1x128x512, .bf16⟩
  | .local _ .vmem, ⟨24, _⟩ => ⟨S1x128x512, .bf16⟩
  | .local _ .vmem, ⟨25, _⟩ => ⟨S1x128x512, .bf16⟩
  | .local _ .vmem, ⟨26, _⟩ => ⟨S1x32x512, .f32⟩
  | .local _ .vmem, ⟨27, _⟩ => ⟨S1x32x512, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_v13 : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_call0_v0 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26_0 : Ref sig .tc := ⟨.hbm, 33, rfl⟩
abbrev main_v26_1 : Ref sig .tc := ⟨.hbm, 34, rfl⟩
abbrev main_v26_2 : Ref sig .tc := ⟨.hbm, 35, rfl⟩
abbrev main_v26_3 : Ref sig .tc := ⟨.hbm, 36, rfl⟩
abbrev main_v26_4 : Ref sig .tc := ⟨.hbm, 37, rfl⟩
abbrev main_v26_5 : Ref sig .tc := ⟨.hbm, 38, rfl⟩
abbrev main_v26_6 : Ref sig .tc := ⟨.hbm, 39, rfl⟩
abbrev main_v26_7 : Ref sig .tc := ⟨.hbm, 40, rfl⟩
abbrev main_v26_8 : Ref sig .tc := ⟨.hbm, 41, rfl⟩
abbrev main_v26_9 : Ref sig .tc := ⟨.hbm, 42, rfl⟩
abbrev main_v26_10 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1792x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S32x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x128x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x32x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S4x8192x1024 : Shape := ⟨3, ![4, 8192, 1024]⟩
abbrev S1024 : Shape := ⟨1, ![1024]⟩
abbrev S1024x2840 : Shape := ⟨2, ![1024, 2840]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x2840 : Shape := ⟨3, ![4, 8192, 2840]⟩
abbrev S4x8192x512 : Shape := ⟨3, ![4, 8192, 512]⟩
abbrev S4x8192x128 : Shape := ⟨3, ![4, 8192, 128]⟩
abbrev S4x8192x24 : Shape := ⟨3, ![4, 8192, 24]⟩
abbrev S4x8192x2x4x3 : Shape := ⟨5, ![4, 8192, 2, 4, 3]⟩
abbrev S4x2x3x4x8192 : Shape := ⟨5, ![4, 2, 3, 4, 8192]⟩
abbrev S4x2x12x8192 : Shape := ⟨4, ![4, 2, 12, 8192]⟩
abbrev S4x2x16x8192 : Shape := ⟨4, ![4, 2, 16, 8192]⟩
abbrev S4x32x8192 : Shape := ⟨3, ![4, 32, 8192]⟩
abbrev S4x512x8192 : Shape := ⟨3, ![4, 512, 8192]⟩
abbrev S4x128x8192 : Shape := ⟨3, ![4, 128, 8192]⟩

abbrev nBuf : Space → Nat
  | .hbm => 67
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S1024x2840, .f32⟩
  | .hbm, ⟨3, _⟩ => ⟨S4x8192x1024, .f32⟩
  | .hbm, ⟨4, _⟩ => ⟨S_, .f32⟩
  | .hbm, ⟨5, _⟩ => ⟨S4x8192, .f32⟩
  | .hbm, ⟨6, _⟩ => ⟨S4x8192x1, .f32⟩
  | .hbm, ⟨7, _⟩ => ⟨S_, .f32⟩
  | .hbm, ⟨8, _⟩ => ⟨S4x8192x1, .f32⟩
  | .hbm, ⟨9, _⟩ => ⟨S4x8192x1, .f32⟩
  | .hbm, ⟨10, _⟩ => ⟨S_, .f32⟩
  | .hbm, ⟨11, _⟩ => ⟨S4x8192x1, .f32⟩
  | .hbm, ⟨12, _⟩ => ⟨S4x8192x1, .f32⟩
  | .hbm, ⟨13, _⟩ => ⟨S4x8192x1, .f32⟩
  | .hbm, ⟨14, _⟩ => ⟨S4x8192x1024, .f32⟩
  | .hbm, ⟨15, _⟩ => ⟨S4x8192x1024, .f32⟩
  | .hbm, ⟨16, _⟩ => ⟨S1x1x1024, .f32⟩
  | .hbm, ⟨17, _⟩ => ⟨S4x8192x1024, .f32⟩
  | .hbm, ⟨18, _⟩ => ⟨S4x8192x1024, .f32⟩
  | .hbm, ⟨19, _⟩ => ⟨S4x8192x2840, .f32⟩
  | .hbm, ⟨20, _⟩ => ⟨S4x8192x512, .f32⟩
  | .hbm, ⟨21, _⟩ => ⟨S4x8192x512, .f32⟩
  | .hbm, ⟨22, _⟩ => ⟨S4x8192x512, .f32⟩
  | .hbm, ⟨23, _⟩ => ⟨S4x8192x512, .f32⟩
  | .hbm, ⟨24, _⟩ => ⟨S4x8192x128, .f32⟩
  | .hbm, ⟨25, _⟩ => ⟨S4x8192x128, .f32⟩
  | .hbm, ⟨26, _⟩ => ⟨S4x8192x128, .f32⟩
  | .hbm, ⟨27, _⟩ => ⟨S4x8192x128, .f32⟩
  | .hbm, ⟨28, _⟩ => ⟨S4x8192x128, .f32⟩
  | .hbm, ⟨29, _⟩ => ⟨S4x8192x128, .f32⟩
  | .hbm, ⟨30, _⟩ => ⟨S4x8192x24, .f32⟩
  | .hbm, ⟨31, _⟩ => ⟨S4x8192x2x4x3, .f32⟩
  | .hbm, ⟨32, _⟩ => ⟨S4x2x3x4x8192, .f32⟩
  | .hbm, ⟨33, _⟩ => ⟨S4x2x12x8192, .f32⟩
  | .hbm, ⟨34, _⟩ => ⟨S_, .i32⟩
  | .hbm, ⟨35, _⟩ => ⟨S_, .f32⟩
  | .hbm, ⟨36, _⟩ => ⟨S4x2x16x8192, .f32⟩
  | .hbm, ⟨37, _⟩ => ⟨S4x32x8192, .f32⟩
  | .hbm, ⟨38, _⟩ => ⟨S_, .f32⟩
  | .hbm, ⟨39, _⟩ => ⟨S4x8192x512, .f32⟩
  | .hbm, ⟨40, _⟩ => ⟨S4x8192x512, .f32⟩
  | .hbm, ⟨41, _⟩ => ⟨S4x512x8192, .f32⟩
  | .hbm, ⟨42, _⟩ => ⟨S4x512x8192, .f32⟩
  | .hbm, ⟨43, _⟩ => ⟨S_, .f32⟩
  | .hbm, ⟨44, _⟩ => ⟨S4x8192x512, .f32⟩
  | .hbm, ⟨45, _⟩ => ⟨S4x8192x512, .f32⟩
  | .hbm, ⟨46, _⟩ => ⟨S4x512x8192, .f32⟩
  | .hbm, ⟨47, _⟩ => ⟨S4x128x8192, .f32⟩
  | .hbm, ⟨48, _⟩ => ⟨S4x128x8192, .f32⟩
  | .hbm, ⟨49, _⟩ => ⟨S4x8192x512, .bf16⟩
  | .hbm, ⟨50, _⟩ => ⟨S4x8192x128, .bf16⟩
  | .hbm, ⟨51, _⟩ => ⟨S4x8192x128, .bf16⟩
  | .hbm, ⟨52, _⟩ => ⟨S4x8192x128, .bf16⟩
  | .hbm, ⟨53, _⟩ => ⟨S4x8192x128, .bf16⟩
  | .hbm, ⟨54, _⟩ => ⟨S4x512x8192, .bf16⟩
  | .hbm, ⟨55, _⟩ => ⟨S4x512x8192, .bf16⟩
  | .hbm, ⟨56, _⟩ => ⟨S4x512x8192, .bf16⟩
  | .hbm, ⟨57, _⟩ => ⟨S4x128x8192, .bf16⟩
  | .hbm, ⟨58, _⟩ => ⟨S4x128x8192, .bf16⟩
  | .hbm, ⟨59, _⟩ => ⟨S4x32x8192, .f32⟩
  | .hbm, ⟨60, _⟩ => ⟨S4x32x8192, .f32⟩
  | .hbm, ⟨61, _⟩ => ⟨S_, .f32⟩
  | .hbm, ⟨62, _⟩ => ⟨S4x32x8192, .f32⟩
  | .hbm, ⟨63, _⟩ => ⟨S4x32x8192, .f32⟩
  | .hbm, ⟨64, _⟩ => ⟨S_, .f32⟩
  | .hbm, ⟨65, _⟩ => ⟨S4x32x8192, .f32⟩
  | .hbm, ⟨66, _⟩ => ⟨S4x32x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_c : Ref sig .tc := ⟨.hbm, 34, rfl⟩
abbrev main_call0_v0 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_cst_4 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩

abbrev nD : Nat := 1
abbrev τ : Topo := Topo.v7x

variable {F : FTy → Type} [FloatOps F]
-- ==== Proof.Prep.lean ====
module

public import proofs.«01_k».proof.Proof.Gen.KernelIdeal.Skeleton
public import Idealize.ShloMosaic.Lib.Pipeline.FrameBody
public import Idealize.ShloMosaic.Lib.Pipeline.ReadBack
public import Idealize.ShloMosaic.Lib.Pipeline.Value
public import Idealize.ShloMosaic.Lib.Pipeline.TableIdle
public import Idealize.ShloMosaic.Lib.ValueLayout
public import Idealize.ShloMosaic.Lib.Ring
public import Idealize.ShloMosaic.Lib.Tactic

@[expose] public section

/-!
# What the expert kernel prepares when a block starts a new expert

The stored weights of an expert interleave the gate's columns (even) with the up projection's columns (odd).  At the first
block of an expert the kernel cuts the [1024, 2048] matrix into eight panels of 256 columns, transposes each panel, lays it
down in eight planes of 128 lanes, reads the even and the odd rows back, and so has the gate's and the up projection's weights
transposed and separate.  This file says so: the two matrices are `gateT` and `upT`, read straight off the stored matrix.
-/

set_option maxRecDepth 16384

noncomputable section

namespace Cert.Proof.Experts

open Cert.KernelIdeal Cert.KernelIdeal.Gen
open Idealize.ShloMosaic Idealize.ShloMosaic.ValueIdx

variable {F : FTy → Type} [FloatOps F]

/-- An expert's stored weights with the columns of one parity taken out, transposed and rounded to bf16: row `f`, column `d` is
the stored entry at row `d`, column `2 f + par`. -/
def halfT (par : Fin 2) (w : S1x1024x2048.Idx → F .f32) : S1024x1024.Idx → F .bf16 := fun j =>
  FloatOps.truncf .bf16 bitsLt_bf16_f32 (w (ix3 (0 : Fin 1) (⟨(j 1).val, (j 1).isLt⟩ : Fin 1024)
    (⟨2 * (j 0).val + par.val, by have h : (j 0).val < 1024 := (j 0).isLt; have := par.isLt; omega⟩ : Fin 2048)))

/-- Panel `ch` of an expert's stored weights, as the planes hold it: plane `c`, row `r`, lane `l` is the stored entry at row
`128 c + l`, column `256 ch + r`. -/
def panel (w : S1x1024x2048.Idx → F .f32) (ch : Fin 8) : S8x256x128.Idx → F .f32 := fun j =>
  w (ix3 (0 : Fin 1)
    (⟨128 * (j 0).val + (j 2).val, by have h : (j 0).val < 8 := (j 0).isLt; have h' : (j 2).val < 128 := (j 2).isLt; omega⟩ : Fin 1024)
    (⟨256 * ch.val + (j 1).val, by have h : (j 1).val < 256 := (j 1).isLt; have := ch.isLt; omega⟩ : Fin 2048))

/-- What is laid down in plane `c`: columns `o … o+255` of the stored matrix, transposed, its lanes `128 c …`. -/
theorem plane_apply (m : Memref sig .tc .vmem S1x1024x2048 .f32) (w : S1x1024x2048.Idx → F .f32) (ch c : Fin 8) (o q : Nat)
    (ho : o = 256 * ch.val) (hq : q = 128 * c.val)
    (inb : ∀ a, (![0, 0, o] : Fin 3 → Nat) a + S1x1024x256.size a ≤ S1x1024x2048.size a)
    (h1 : S1x1024x256.ShapeCasts S1024x256) (h2 : S1024x256.Transposes [1, 0] S256x1024) (h3 : S256x1024.Slices ![0, q] S256x128)
    (h4 : S256x128.ShapeCasts S1x256x128) (y : S1x256x128.Idx) (k : S8x256x128.Idx)
    (k0 : (k 0).val = c.val) (k1 : (k 1).val = (y 1).val) (k2 : (k 2).val = (y 2).val) :
    shapeCast S1x256x128 (extractStridedSlice S256x128 ![0, q] (transpose S256x1024 [1, 0]
      (shapeCast S1024x256 (View.readAt (Elt F) m.view (Rect.unit (s := S1x1024x2048) ![0, 0, o] S1x1024x256.size inb).toLoadRect (m.view.rep w)) h1) h2) h3) h4 y
      = panel w ch k := by
  subst ho hq
  have y0 : (y 0).val < 1 := (y 0).isLt
  have y1 : (y 1).val < 256 := (y 1).isLt
  have y2 : (y 2).val < 128 := (y 2).isLt
  have hch := ch.isLt
  have hc := c.isLt
  rw [shapeCast_apply _ h4 y (ix2 (⟨(y 1).val, y1⟩ : Fin 256) (⟨(y 2).val, y2⟩ : Fin 128)) (by
    rw [Shape.rowMajor_val_two, Shape.rowMajor_val_three]
    show (y 1).val * 128 + (y 2).val = ((y 0).val * 256 + (y 1).val) * 128 + (y 2).val
    omega)]
  rw [extractStridedSlice_apply _ _ h3 _ (ix2 (⟨(y 1).val, by omega⟩ : Fin 256) (⟨128 * c.val + (y 2).val, by omega⟩ : Fin 1024))
    (fun a => match a with | ⟨0, _⟩ => (Nat.zero_add _).symm | ⟨1, _⟩ => rfl)]
  rw [transpose_apply _ _ h2 _ (ix2 (⟨128 * c.val + (y 2).val, by omega⟩ : Fin 1024) (⟨(y 1).val, by omega⟩ : Fin 256))
    (fun a => match a with | ⟨0, _⟩ => rfl | ⟨1, _⟩ => rfl)]
  rw [shapeCast_apply _ h1 _ (ix3 (0 : Fin 1) (⟨128 * c.val + (y 2).val, by omega⟩ : Fin 1024) (⟨(y 1).val, by omega⟩ : Fin 256)) (by
    rw [Shape.rowMajor_val_two, Shape.rowMajor_val_three]
    show (0 * 1024 + (128 * c.val + (y 2).val)) * 256 + (y 1).val = (128 * c.val + (y 2).val) * 256 + (y 1).val
    omega)]
  rw [View.readAt_rep]
  unfold panel
  refine congrArg w (funext fun a => Fin.ext ?_)
  match a with
  | ⟨0, _⟩ => rfl
  | ⟨1, _⟩ => show 0 + 1 * (128 * c.val + (y 2).val) = 128 * (k 0).val + (k 2).val; omega
  | ⟨2, _⟩ => show 256 * ch.val + 1 * (y 1).val = 256 * ch.val + (k 1).val; omega

/-- `plane_apply` at the element a plane's store puts at `y`. -/
theorem plane_piece (m : Memref sig .tc .vmem S1x1024x2048 .f32) (w : S1x1024x2048.Idx → F .f32) (ch c : Fin 8) (o q : Nat)
    (ho : o = 256 * ch.val) (hq : q = 128 * c.val)
    (inb : ∀ a, (![0, 0, o] : Fin 3 → Nat) a + S1x1024x256.size a ≤ S1x1024x2048.size a)
    (h1 : S1x1024x256.ShapeCasts S1024x256) (h2 : S1024x256.Transposes [1, 0] S256x1024) (h3 : S256x1024.Slices ![0, q] S256x128)
    (h4 : S256x128.ShapeCasts S1x256x128) (r : Rect S8x256x128) (z : r.shape.Idx) (y : S1x256x128.Idx)
    (e0 : (r.emb z 0).val = c.val + 1 * (y 0).val) (e1 : (r.emb z 1).val = 0 + 1 * (y 1).val) (e2 : (r.emb z 2).val = 0 + 1 * (y 2).val) :
    shapeCast S1x256x128 (extractStridedSlice S256x128 ![0, q] (transpose S256x1024 [1, 0]
      (shapeCast S1024x256 (View.readAt (Elt F) m.view (Rect.unit (s := S1x1024x2048) ![0, 0, o] S1x1024x256.size inb).toLoadRect (m.view.rep w)) h1) h2) h3) h4 y
      = panel w ch (r.emb z) :=
  have y0 : (y 0).val < 1 := (y 0).isLt
  plane_apply m w ch c o q ho hq inb h1 h2 h3 h4 y _ (by omega) (by omega) (by omega)

/-- What the kernel stores to one plane of a panel, as a term of the stored weights. -/
def planeVal (m : Memref sig .tc .vmem S1x1024x2048 .f32) (w : S1x1024x2048.Idx → F .f32) (o : Nat)
    (inb : ∀ a, (![0, 0, o] : Fin 3 → Nat) a + S1x1024x256.size a ≤ S1x1024x2048.size a) (q : Nat) (h3 : S256x1024.Slices ![0, q] S256x128) :
    S1x256x128.Idx → F .f32 :=
  shapeCast S1x256x128 (extractStridedSlice S256x128 ![0, q] (transpose S256x1024 [1, 0]
      (shapeCast S1024x256 (View.readAt (Elt F) m.view (Rect.unit (s := S1x1024x2048) ![0, 0, o] S1x1024x256.size inb).toLoadRect (m.view.rep w))
        shapeCasts_S1x1024x256_S1024x256) transposes_S1024x256_p1_0_S256x1024) h3) shapeCasts_S256x128_S1x256x128

/-- It is the panel on that plane. -/
theorem planeVal_piece (m : Memref sig .tc .vmem S1x1024x2048 .f32) (w : S1x1024x2048.Idx → F .f32) (ch c : Fin 8) (o q : Nat)
    (ho : o = 256 * ch.val) (hq : q = 128 * c.val)
    (inb : ∀ a, (![0, 0, o] : Fin 3 → Nat) a + S1x1024x256.size a ≤ S1x1024x2048.size a) (h3 : S256x1024.Slices ![0, q] S256x128)
    (r : Rect S8x256x128) (z : r.shape.Idx) (y : S1x256x128.Idx)
    (e0 : (r.emb z 0).val = c.val + 1 * (y 0).val) (e1 : (r.emb z 1).val = 0 + 1 * (y 1).val) (e2 : (r.emb z 2).val = 0 + 1 * (y 2).val) :
    planeVal m w o inb q h3 y = panel w ch (r.emb z) :=
  plane_piece m w ch c o q ho hq inb shapeCasts_S1x1024x256_S1024x256 transposes_S1024x256_p1_0_S256x1024 h3 shapeCasts_S256x128_S1x256x128
    r z y e0 e1 e2

/-- The eight stores of one panel, last first. -/
def planes (m : Memref sig .tc .vmem S1x1024x2048 .f32) (w : S1x1024x2048.Idx → F .f32) (o : Nat)
    (inb : ∀ a, (![0, 0, o] : Fin 3 → Nat) a + S1x1024x256.size a ≤ S1x1024x2048.size a) : List (View.Piece (Elt F) S8x256x128 .f32) :=
  [⟨Rect.unit (s := S8x256x128) ![7, 0, 0] S1x256x128.size inb_S8x256x128_S1x256x128_7_0_0, planeVal m w o inb 896 slices_S256x1024_o0_896_S256x128⟩,
   ⟨Rect.unit (s := S8x256x128) ![6, 0, 0] S1x256x128.size inb_S8x256x128_S1x256x128_6_0_0, planeVal m w o inb 768 slices_S256x1024_o0_768_S256x128⟩,
   ⟨Rect.unit (s := S8x256x128) ![5, 0, 0] S1x256x128.size inb_S8x256x128_S1x256x128_5_0_0, planeVal m w o inb 640 slices_S256x1024_o0_640_S256x128⟩,
   ⟨Rect.unit (s := S8x256x128) ![4, 0, 0] S1x256x128.size inb_S8x256x128_S1x256x128_4_0_0, planeVal m w o inb 512 slices_S256x1024_o0_512_S256x128⟩,
   ⟨Rect.unit (s := S8x256x128) ![3, 0, 0] S1x256x128.size inb_S8x256x128_S1x256x128_3_0_0, planeVal m w o inb 384 slices_S256x1024_o0_384_S256x128⟩,
   ⟨Rect.unit (s := S8x256x128) ![2, 0, 0] S1x256x128.size inb_S8x256x128_S1x256x128_2_0_0, planeVal m w o inb 256 slices_S256x1024_o0_256_S256x128⟩,
   ⟨Rect.unit (s := S8x256x128) ![1, 0, 0] S1x256x128.size inb_S8x256x128_S1x256x128_1_0_0, planeVal m w o inb 128 slices_S256x1024_o0_128_S256x128⟩,
   ⟨Rect.unit (s := S8x256x128) ![0, 0, 0] S1x256x128.size inb_S8x256x128_S1x256x128_0_0_0, planeVal m w o inb 0 slices_S256x1024_o0_0_S256x128⟩]

/-- They are the panel, each on its plane. -/
theorem planes_pieces (m : Memref sig .tc .vmem S1x1024x2048 .f32) (w : S1x1024x2048.Idx → F .f32) (ch : Fin 8) (o : Nat) (ho : o = 256 * ch.val)
    (inb : ∀ a, (![0, 0, o] : Fin 3 → Nat) a + S1x1024x256.size a ≤ S1x1024x2048.size a) :
    View.PiecesOf (panel w ch) (planes m w o inb) :=
  ⟨fun y => planeVal_piece m w ch 7 o 896 ho rfl inb slices_S256x1024_o0_896_S256x128 _ y y rfl rfl rfl,
   fun y => planeVal_piece m w ch 6 o 768 ho rfl inb slices_S256x1024_o0_768_S256x128 _ y y rfl rfl rfl,
   fun y => planeVal_piece m w ch 5 o 640 ho rfl inb slices_S256x1024_o0_640_S256x128 _ y y rfl rfl rfl,
   fun y => planeVal_piece m w ch 4 o 512 ho rfl inb slices_S256x1024_o0_512_S256x128 _ y y rfl rfl rfl,
   fun y => planeVal_piece m w ch 3 o 384 ho rfl inb slices_S256x1024_o0_384_S256x128 _ y y rfl rfl rfl,
   fun y => planeVal_piece m w ch 2 o 256 ho rfl inb slices_S256x1024_o0_256_S256x128 _ y y rfl rfl rfl,
   fun y => planeVal_piece m w ch 1 o 128 ho rfl inb slices_S256x1024_o0_128_S256x128 _ y y rfl rfl rfl,
   fun y => planeVal_piece m w ch 0 o 0 ho rfl inb slices_S256x1024_o0_0_S256x128 _ y y rfl rfl rfl, trivial⟩

/-- They tile the plane buffer. -/
theorem planes_tiled (m : Memref sig .tc .vmem S1x1024x2048 .f32) (w : S1x1024x2048.Idx → F .f32) (o : Nat)
    (inb : ∀ a, (![0, 0, o] : Fin 3 → Nat) a + S1x1024x256.size a ≤ S1x1024x2048.size a) :
    View.Piece.tiledL (planes m w o inb) ![1, 256, 128] = true := by sl_kernel_rfl

/-- After the eight planes of a panel are laid down (the eight newest stores), any load of the plane buffer reads the panel,
whatever was stored before. -/
theorem planes_read (m : Memref sig .tc .vmem S8x256x128 .f32) (m' : Memref sig .tc .vmem S1x1024x2048 .f32) (w : S1x1024x2048.Idx → F .f32)
    (ch : Fin 8) (o : Nat) (ho : o = 256 * ch.val) (inb : ∀ a, (![0, 0, o] : Fin 3 → Nat) a + S1x1024x256.size a ≤ S1x1024x2048.size a)
    (H : List (View.Piece (Elt F) S8x256x128 .f32)) (hH : H.take 8 = planes m' w o inb) (B : LoadRect S8x256x128) (y : B.shape.Idx) :
    m.view.readCov H B y = panel w ch (B.idx y) := by
  rw [View.readCov_eq_canon', ← List.take_append_drop 8 H, hH]
  exact View.canon_append_of_piecesOf (panel w ch) (H.drop 8) _ (planes_pieces m' w ch o ho inb) _
    (View.cover_of_tiledL _ ![1, 256, 128] (planes_tiled m' w o inb) _)

/-- Eight loads of every second row of the eight planes, joined along the lanes and rounded, are 128 rows of the half's
transposed weights. -/
theorem rows_apply (w : S1x1024x2048.Idx → F .f32) (ch : Fin 8) (par : Fin 2)
    (R : Fin 8 → S1x128x128.Idx → F .f32)
    (hR : ∀ c y k, (k 0).val = c.val → (k 1).val = par.val + 2 * (y 1).val → (k 2).val = (y 2).val → R c y = panel w ch k)
    (hc : S1x128x128.ShapeCasts S128x128) (hs : S128x1024.ShapeCasts S128x1024)
    (hcat) (y : S128x1024.Idx) (k : S1024x1024.Idx) (k0 : (k 0).val = 128 * ch.val + (y 0).val) (k1 : (k 1).val = (y 1).val) :
    shapeCast S128x1024 (truncf .bf16 (concatenate S128x1024 1
      [⟨S128x128, shapeCast S128x128 (R 0) hc⟩, ⟨S128x128, shapeCast S128x128 (R 1) hc⟩, ⟨S128x128, shapeCast S128x128 (R 2) hc⟩,
       ⟨S128x128, shapeCast S128x128 (R 3) hc⟩, ⟨S128x128, shapeCast S128x128 (R 4) hc⟩, ⟨S128x128, shapeCast S128x128 (R 5) hc⟩,
       ⟨S128x128, shapeCast S128x128 (R 6) hc⟩, ⟨S128x128, shapeCast S128x128 (R 7) hc⟩] hcat : FVec F S128x1024 .f32) bitsLt_bf16_f32) hs y
      = halfT par w k := by
  have y0 : (y 0).val < 128 := (y 0).isLt
  have y1 : (y 1).val < 1024 := (y 1).isLt
  have hp := par.isLt
  have hch := ch.isLt
  rw [shapeCast_self]
  unfold halfT
  show FloatOps.truncf .bf16 bitsLt_bf16_f32 (concatenate S128x1024 1
      (List.ofFn fun n : Fin 8 => (⟨S128x128, shapeCast S128x128 (R n) hc⟩ : (s : Shape) × (s.Idx → F .f32))) hcat y) = _
  rw [concatenate_ofFn_apply (1 : Fin S128x1024.rank) (fun n : Fin 8 => shapeCast S128x128 (R n) hc) hcat rfl 128 rfl y
    (⟨(y 1).val / 128, by omega⟩ : Fin 8) rfl (ix2 (⟨(y 0).val, y0⟩ : Fin 128) (⟨(y 1).val % 128, by omega⟩ : Fin 128)) rfl
    (fun b hb => match b with | ⟨0, _⟩ => rfl | ⟨1, _⟩ => absurd rfl hb)]
  rw [shapeCast_apply (R _) hc _ (ix3 (0 : Fin 1) (⟨(y 0).val, y0⟩ : Fin 128) (⟨(y 1).val % 128, by omega⟩ : Fin 128)) (by
    rw [Shape.rowMajor_val_two, Shape.rowMajor_val_three]
    show (0 * 128 + (y 0).val) * 128 + (y 1).val % 128 = (y 0).val * 128 + (y 1).val % 128
    omega)]
  rw [hR _ _ (ix3 (⟨(y 1).val / 128, by omega⟩ : Fin 8) (⟨par.val + 2 * (y 0).val, by omega⟩ : Fin 256) (⟨(y 1).val % 128, by omega⟩ : Fin 128)) rfl rfl rfl]
  unfold panel
  refine congrArg (fun z => FloatOps.truncf .bf16 bitsLt_bf16_f32 (w z)) (funext fun a => Fin.ext ?_)
  match a with
  | ⟨0, _⟩ => rfl
  | ⟨1, _⟩ => show 128 * ((y 1).val / 128) + (y 1).val % 128 = (k 1).val; omega
  | ⟨2, _⟩ => show 256 * ch.val + (par.val + 2 * (y 0).val) = 2 * (k 0).val + par.val; omega

/-- `rows_apply` with the eight loads named one by one, at the element the row panel's store puts at `y`. -/
theorem rows_piece (w : S1x1024x2048.Idx → F .f32) (ch : Fin 8) (par : Fin 2) (R0 R1 R2 R3 R4 R5 R6 R7 : S1x128x128.Idx → F .f32)
    (h0 : ∀ (y : S1x128x128.Idx) (k : S8x256x128.Idx), (k 0).val = 0 → (k 1).val = par.val + 2 * (y 1).val → (k 2).val = (y 2).val → R0 y = panel w ch k)
    (h1 : ∀ (y : S1x128x128.Idx) (k : S8x256x128.Idx), (k 0).val = 1 → (k 1).val = par.val + 2 * (y 1).val → (k 2).val = (y 2).val → R1 y = panel w ch k)
    (h2 : ∀ (y : S1x128x128.Idx) (k : S8x256x128.Idx), (k 0).val = 2 → (k 1).val = par.val + 2 * (y 1).val → (k 2).val = (y 2).val → R2 y = panel w ch k)
    (h3 : ∀ (y : S1x128x128.Idx) (k : S8x256x128.Idx), (k 0).val = 3 → (k 1).val = par.val + 2 * (y 1).val → (k 2).val = (y 2).val → R3 y = panel w ch k)
    (h4 : ∀ (y : S1x128x128.Idx) (k : S8x256x128.Idx), (k 0).val = 4 → (k 1).val = par.val + 2 * (y 1).val → (k 2).val = (y 2).val → R4 y = panel w ch k)
    (h5 : ∀ (y : S1x128x128.Idx) (k : S8x256x128.Idx), (k 0).val = 5 → (k 1).val = par.val + 2 * (y 1).val → (k 2).val = (y 2).val → R5 y = panel w ch k)
    (h6 : ∀ (y : S1x128x128.Idx) (k : S8x256x128.Idx), (k 0).val = 6 → (k 1).val = par.val + 2 * (y 1).val → (k 2).val = (y 2).val → R6 y = panel w ch k)
    (h7 : ∀ (y : S1x128x128.Idx) (k : S8x256x128.Idx), (k 0).val = 7 → (k 1).val = par.val + 2 * (y 1).val → (k 2).val = (y 2).val → R7 y = panel w ch k)
    (hc : S1x128x128.ShapeCasts S128x128) (hs : S128x1024.ShapeCasts S128x1024) (hcat) (r : Rect S1024x1024) (z : r.shape.Idx)
    (y : S128x1024.Idx) (e0 : (r.emb z 0).val = 128 * ch.val + 1 * (y 0).val) (e1 : (r.emb z 1).val = 0 + 1 * (y 1).val) :
    shapeCast S128x1024 (truncf .bf16 (concatenate S128x1024 1 [⟨S128x128, shapeCast S128x128 R0 hc⟩, ⟨S128x128, shapeCast S128x128 R1 hc⟩, ⟨S128x128, shapeCast S128x128 R2 hc⟩, ⟨S128x128, shapeCast S128x128 R3 hc⟩, ⟨S128x128, shapeCast S128x128 R4 hc⟩, ⟨S128x128, shapeCast S128x128 R5 hc⟩, ⟨S128x128, shapeCast S128x128 R6 hc⟩, ⟨S128x128, shapeCast S128x128 R7 hc⟩] hcat : FVec F S128x1024 .f32) bitsLt_bf16_f32) hs y
      = halfT par w (r.emb z) :=
  rows_apply w ch par ![R0, R1, R2, R3, R4, R5, R6, R7] (fun c => match c with | ⟨0, _⟩ => h0 | ⟨1, _⟩ => h1 | ⟨2, _⟩ => h2 | ⟨3, _⟩ => h3 | ⟨4, _⟩ => h4 | ⟨5, _⟩ => h5 | ⟨6, _⟩ => h6 | ⟨7, _⟩ => h7) hc hs hcat y _ (by omega) (by omega)

/-- One load of every second row of a plane, from row `par`. -/
def rowsLd (m : Memref sig .tc .vmem S8x256x128 .f32) (H : List (View.Piece (Elt F) S8x256x128 .f32)) (n par : Nat)
    (inb : ∀ a, S1x128x128.size a = 0 ∨ (![n, par, 0] : Fin 3 → Nat) a + (![1, 2, 1] : Fin 3 → Nat) a * (S1x128x128.size a - 1) < S8x256x128.size a) :
    S1x128x128.Idx → F .f32 :=
  m.view.readCov H (⟨![n, par, 0], S1x128x128.size, ![1, 2, 1], inb⟩ : LoadRect S8x256x128)

/-- After a panel's planes are laid down, it reads the panel's rows of that parity. -/
theorem rowsLd_apply (m : Memref sig .tc .vmem S8x256x128 .f32) (m' : Memref sig .tc .vmem S1x1024x2048 .f32) (w : S1x1024x2048.Idx → F .f32)
    (ch : Fin 8) (o : Nat) (ho : o = 256 * ch.val) (inb' : ∀ a, (![0, 0, o] : Fin 3 → Nat) a + S1x1024x256.size a ≤ S1x1024x2048.size a)
    (H : List (View.Piece (Elt F) S8x256x128 .f32)) (hH : H.take 8 = planes m' w o inb') (n par : Nat)
    (inb : ∀ a, S1x128x128.size a = 0 ∨ (![n, par, 0] : Fin 3 → Nat) a + (![1, 2, 1] : Fin 3 → Nat) a * (S1x128x128.size a - 1) < S8x256x128.size a)
    (y : S1x128x128.Idx) (k : S8x256x128.Idx) (k0 : (k 0).val = n) (k1 : (k 1).val = par + 2 * (y 1).val) (k2 : (k 2).val = (y 2).val) :
    rowsLd m H n par inb y = panel w ch k := by
  have y0 : (y 0).val < 1 := (y 0).isLt
  unfold rowsLd
  refine (planes_read m m' w ch o ho inb' H hH (⟨![n, par, 0], S1x128x128.size, ![1, 2, 1], inb⟩ : LoadRect S8x256x128) y).trans (congrArg (panel w ch) (funext fun a => Fin.ext ?_))
  match a with
  | ⟨0, _⟩ => show n + 1 * (y 0).val = (k 0).val; omega
  | ⟨1, _⟩ => show par + 2 * (y 1).val = (k 1).val; omega
  | ⟨2, _⟩ => show 0 + 1 * (y 2).val = (k 2).val; omega

/-- Stores that tile a buffer leave `G` in it when each of them is `G` on its own rectangle. -/
theorem tiles_fill {s : Shape} {e : EltTy} (m : Memref sig .tc .vmem s e) (f : m.view.ty.Contents (Elt F)) (G : s.Idx → Elt F e)
    (L : List (View.Piece (Elt F) s e)) (size : Fin s.rank → Nat) (hp : View.PiecesOf G L) (ht : View.Piece.tiledL L size = true) :
    m.view.read (Elt F) (m.view.writes (Elt F) f L) = G := by
  have hcov := View.cover_of_tiledL L size ht
  rw [View.read_writes_eq_canon _ _ _ hcov]
  exact funext fun y => View.canon_apply_of_pieces G _ hp.mem y (hcov y)

/-- The even rows of a panel joined along the lanes and rounded: what is stored to one row panel of a weights scratch. -/
def evenRows (m : Memref sig .tc .vmem S8x256x128 .f32) (H : List (View.Piece (Elt F) S8x256x128 .f32)) : S128x1024.Idx → F .bf16 :=
  shapeCast S128x1024 (truncf .bf16 (concatenate S128x1024 1
    [⟨S128x128, shapeCast S128x128 (rowsLd m H 0 0 inb_S8x256x128_S1x128x128_0_0_0_s_1_2_1) shapeCasts_S1x128x128_S128x128⟩, ⟨S128x128, shapeCast S128x128 (rowsLd m H 1 0 inb_S8x256x128_S1x128x128_1_0_0_s_1_2_1) shapeCasts_S1x128x128_S128x128⟩, ⟨S128x128, shapeCast S128x128 (rowsLd m H 2 0 inb_S8x256x128_S1x128x128_2_0_0_s_1_2_1) shapeCasts_S1x128x128_S128x128⟩, ⟨S128x128, shapeCast S128x128 (rowsLd m H 3 0 inb_S8x256x128_S1x128x128_3_0_0_s_1_2_1) shapeCasts_S1x128x128_S128x128⟩, ⟨S128x128, shapeCast S128x128 (rowsLd m H 4 0 inb_S8x256x128_S1x128x128_4_0_0_s_1_2_1) shapeCasts_S1x128x128_S128x128⟩, ⟨S128x128, shapeCast S128x128 (rowsLd m H 5 0 inb_S8x256x128_S1x128x128_5_0_0_s_1_2_1) shapeCasts_S1x128x128_S128x128⟩, ⟨S128x128, shapeCast S128x128 (rowsLd m H 6 0 inb_S8x256x128_S1x128x128_6_0_0_s_1_2_1) shapeCasts_S1x128x128_S128x128⟩, ⟨S128x128, shapeCast S128x128 (rowsLd m H 7 0 inb_S8x256x128_S1x128x128_7_0_0_s_1_2_1) shapeCasts_S1x128x128_S128x128⟩]
    concatenates_S128x128_S128x128_S128x128_S128x128_S128x128_S128x128_S128x128_S128x128_S128x1024_d1 : FVec F S128x1024 .f32) bitsLt_bf16_f32) shapeCasts_S128x1024_S128x1024

/-- The eight such stores, last first. -/
def evenPieces (m : Memref sig .tc .vmem S8x256x128 .f32) (H0 H1 H2 H3 H4 H5 H6 H7 : List (View.Piece (Elt F) S8x256x128 .f32)) :
    List (View.Piece (Elt F) S1024x1024 .bf16) :=
  [⟨Rect.unit (s := S1024x1024) ![896, 0] S128x1024.size inb_S1024x1024_S128x1024_896_0, evenRows m H7⟩, ⟨Rect.unit (s := S1024x1024) ![768, 0] S128x1024.size inb_S1024x1024_S128x1024_768_0, evenRows m H6⟩, ⟨Rect.unit (s := S1024x1024) ![640, 0] S128x1024.size inb_S1024x1024_S128x1024_640_0, evenRows m H5⟩, ⟨Rect.unit (s := S1024x1024) ![512, 0] S128x1024.size inb_S1024x1024_S128x1024_512_0, evenRows m H4⟩, ⟨Rect.unit (s := S1024x1024) ![384, 0] S128x1024.size inb_S1024x1024_S128x1024_384_0, evenRows m H3⟩, ⟨Rect.unit (s := S1024x1024) ![256, 0] S128x1024.size inb_S1024x1024_S128x1024_256_0, evenRows m H2⟩, ⟨Rect.unit (s := S1024x1024) ![128, 0] S128x1024.size inb_S1024x1024_S128x1024_128_0, evenRows m H1⟩, ⟨Rect.unit (s := S1024x1024) ![0, 0] S128x1024.size inb_S1024x1024_S128x1024_0_0, evenRows m H0⟩]

/-- One of them is the half's transposed weights on its rows. -/
theorem evenRows_piece (m : Memref sig .tc .vmem S8x256x128 .f32) (m' : Memref sig .tc .vmem S1x1024x2048 .f32) (w : S1x1024x2048.Idx → F .f32)
    (ch : Fin 8) (o : Nat) (ho : o = 256 * ch.val) (inb' : ∀ a, (![0, 0, o] : Fin 3 → Nat) a + S1x1024x256.size a ≤ S1x1024x2048.size a)
    (H : List (View.Piece (Elt F) S8x256x128 .f32)) (hH : H.take 8 = planes m' w o inb') (r : Rect S1024x1024) (z : r.shape.Idx)
    (y : S128x1024.Idx) (e0 : (r.emb z 0).val = 128 * ch.val + 1 * (y 0).val) (e1 : (r.emb z 1).val = 0 + 1 * (y 1).val) :
    evenRows m H y = halfT 0 w (r.emb z) :=
  rows_piece w ch 0 _ _ _ _ _ _ _ _
    (fun y k k0 k1 k2 => rowsLd_apply m m' w ch o ho inb' H hH 0 0 inb_S8x256x128_S1x128x128_0_0_0_s_1_2_1 y k k0 k1 k2)
    (fun y k k0 k1 k2 => rowsLd_apply m m' w ch o ho inb' H hH 1 0 inb_S8x256x128_S1x128x128_1_0_0_s_1_2_1 y k k0 k1 k2)
    (fun y k k0 k1 k2 => rowsLd_apply m m' w ch o ho inb' H hH 2 0 inb_S8x256x128_S1x128x128_2_0_0_s_1_2_1 y k k0 k1 k2)
    (fun y k k0 k1 k2 => rowsLd_apply m m' w ch o ho inb' H hH 3 0 inb_S8x256x128_S1x128x128_3_0_0_s_1_2_1 y k k0 k1 k2)
    (fun y k k0 k1 k2 => rowsLd_apply m m' w ch o ho inb' H hH 4 0 inb_S8x256x128_S1x128x128_4_0_0_s_1_2_1 y k k0 k1 k2)
    (fun y k k0 k1 k2 => rowsLd_apply m m' w ch o ho inb' H hH 5 0 inb_S8x256x128_S1x128x128_5_0_0_s_1_2_1 y k k0 k1 k2)
    (fun y k k0 k1 k2 => rowsLd_apply m m' w ch o ho inb' H hH 6 0 inb_S8x256x128_S1x128x128_6_0_0_s_1_2_1 y k k0 k1 k2)
    (fun y k k0 k1 k2 => rowsLd_apply m m' w ch o ho inb' H hH 7 0 inb_S8x256x128_S1x128x128_7_0_0_s_1_2_1 y k k0 k1 k2)
    shapeCasts_S1x128x128_S128x128 shapeCasts_S128x1024_S128x1024
    concatenates_S128x128_S128x128_S128x128_S128x128_S128x128_S128x128_S128x128_S128x128_S128x1024_d1 r z y e0 e1

/-- All eight leave the half's transposed weights in the scratch. -/
theorem even_fill (m : Memref sig .tc .vmem S8x256x128 .f32) (m' : Memref sig .tc .vmem S1x1024x2048 .f32) (w : S1x1024x2048.Idx → F .f32)
    (H0 H1 H2 H3 H4 H5 H6 H7 : List (View.Piece (Elt F) S8x256x128 .f32))
    (h0 : H0.take 8 = planes m' w 0 inb_S1x1024x2048_S1x1024x256_0_0_0)
    (h1 : H1.take 8 = planes m' w 256 inb_S1x1024x2048_S1x1024x256_0_0_256)
    (h2 : H2.take 8 = planes m' w 512 inb_S1x1024x2048_S1x1024x256_0_0_512)
    (h3 : H3.take 8 = planes m' w 768 inb_S1x1024x2048_S1x1024x256_0_0_768)
    (h4 : H4.take 8 = planes m' w 1024 inb_S1x1024x2048_S1x1024x256_0_0_1024)
    (h5 : H5.take 8 = planes m' w 1280 inb_S1x1024x2048_S1x1024x256_0_0_1280)
    (h6 : H6.take 8 = planes m' w 1536 inb_S1x1024x2048_S1x1024x256_0_0_1536)
    (h7 : H7.take 8 = planes m' w 1792 inb_S1x1024x2048_S1x1024x256_0_0_1792)
    (mo : Memref sig .tc .vmem S1024x1024 .bf16) (f : mo.view.ty.Contents (Elt F)) (L : List (View.Piece (Elt F) S1024x1024 .bf16))
    (hL : L = evenPieces m H0 H1 H2 H3 H4 H5 H6 H7) :
    mo.view.read (Elt F) (mo.view.writes (Elt F) f L) = halfT 0 w := by
  subst hL
  exact tiles_fill mo f _ _ ![128, 1024]
    ⟨fun y => evenRows_piece m m' w 7 1792 rfl _ H7 h7 _ y y rfl rfl,
     fun y => evenRows_piece m m' w 6 1536 rfl _ H6 h6 _ y y rfl rfl,
     fun y => evenRows_piece m m' w 5 1280 rfl _ H5 h5 _ y y rfl rfl,
     fun y => evenRows_piece m m' w 4 1024 rfl _ H4 h4 _ y y rfl rfl,
     fun y => evenRows_piece m m' w 3 768 rfl _ H3 h3 _ y y rfl rfl,
     fun y => evenRows_piece m m' w 2 512 rfl _ H2 h2 _ y y rfl rfl,
     fun y => evenRows_piece m m' w 1 256 rfl _ H1 h1 _ y y rfl rfl,
     fun y => evenRows_piece m m' w 0 0 rfl _ H0 h0 _ y y rfl rfl, trivial⟩ (by sl_kernel_rfl)

/-- The odd rows of a panel joined along the lanes and rounded: what is stored to one row panel of a weights scratch. -/
def oddRows (m : Memref sig .tc .vmem S8x256x128 .f32) (H : List (View.Piece (Elt F) S8x256x128 .f32)) : S128x1024.Idx → F .bf16 :=
  shapeCast S128x1024 (truncf .bf16 (concatenate S128x1024 1
    [⟨S128x128, shapeCast S128x128 (rowsLd m H 0 1 inb_S8x256x128_S1x128x128_0_1_0_s_1_2_1) shapeCasts_S1x128x128_S128x128⟩, ⟨S128x128, shapeCast S128x128 (rowsLd m H 1 1 inb_S8x256x128_S1x128x128_1_1_0_s_1_2_1) shapeCasts_S1x128x128_S128x128⟩, ⟨S128x128, shapeCast S128x128 (rowsLd m H 2 1 inb_S8x256x128_S1x128x128_2_1_0_s_1_2_1) shapeCasts_S1x128x128_S128x128⟩, ⟨S128x128, shapeCast S128x128 (rowsLd m H 3 1 inb_S8x256x128_S1x128x128_3_1_0_s_1_2_1) shapeCasts_S1x128x128_S128x128⟩, ⟨S128x128, shapeCast S128x128 (rowsLd m H 4 1 inb_S8x256x128_S1x128x128_4_1_0_s_1_2_1) shapeCasts_S1x128x128_S128x128⟩, ⟨S128x128, shapeCast S128x128 (rowsLd m H 5 1 inb_S8x256x128_S1x128x128_5_1_0_s_1_2_1) shapeCasts_S1x128x128_S128x128⟩, ⟨S128x128, shapeCast S128x128 (rowsLd m H 6 1 inb_S8x256x128_S1x128x128_6_1_0_s_1_2_1) shapeCasts_S1x128x128_S128x128⟩, ⟨S128x128, shapeCast S128x128 (rowsLd m H 7 1 inb_S8x256x128_S1x128x128_7_1_0_s_1_2_1) shapeCasts_S1x128x128_S128x128⟩]
    concatenates_S128x128_S128x128_S128x128_S128x128_S128x128_S128x128_S128x128_S128x128_S128x1024_d1 : FVec F S128x1024 .f32) bitsLt_bf16_f32) shapeCasts_S128x1024_S128x1024

/-- The eight such stores, last first. -/
def oddPieces (m : Memref sig .tc .vmem S8x256x128 .f32) (H0 H1 H2 H3 H4 H5 H6 H7 : List (View.Piece (Elt F) S8x256x128 .f32)) :
    List (View.Piece (Elt F) S1024x1024 .bf16) :=
  [⟨Rect.unit (s := S1024x1024) ![896, 0] S128x1024.size inb_S1024x1024_S128x1024_896_0, oddRows m H7⟩, ⟨Rect.unit (s := S1024x1024) ![768, 0] S128x1024.size inb_S1024x1024_S128x1024_768_0, oddRows m H6⟩, ⟨Rect.unit (s := S1024x1024) ![640, 0] S128x1024.size inb_S1024x1024_S128x1024_640_0, oddRows m H5⟩, ⟨Rect.unit (s := S1024x1024) ![512, 0] S128x1024.size inb_S1024x1024_S128x1024_512_0, oddRows m H4⟩, ⟨Rect.unit (s := S1024x1024) ![384, 0] S128x1024.size inb_S1024x1024_S128x1024_384_0, oddRows m H3⟩, ⟨Rect.unit (s := S1024x1024) ![256, 0] S128x1024.size inb_S1024x1024_S128x1024_256_0, oddRows m H2⟩, ⟨Rect.unit (s := S1024x1024) ![128, 0] S128x1024.size inb_S1024x1024_S128x1024_128_0, oddRows m H1⟩, ⟨Rect.unit (s := S1024x1024) ![0, 0] S128x1024.size inb_S1024x1024_S128x1024_0_0, oddRows m H0⟩]

/-- One of them is the half's transposed weights on its rows. -/
theorem oddRows_piece (m : Memref sig .tc .vmem S8x256x128 .f32) (m' : Memref sig .tc .vmem S1x1024x2048 .f32) (w : S1x1024x2048.Idx → F .f32)
    (ch : Fin 8) (o : Nat) (ho : o = 256 * ch.val) (inb' : ∀ a, (![0, 0, o] : Fin 3 → Nat) a + S1x1024x256.size a ≤ S1x1024x2048.size a)
    (H : List (View.Piece (Elt F) S8x256x128 .f32)) (hH : H.take 8 = planes m' w o inb') (r : Rect S1024x1024) (z : r.shape.Idx)
    (y : S128x1024.Idx) (e0 : (r.emb z 0).val = 128 * ch.val + 1 * (y 0).val) (e1 : (r.emb z 1).val = 0 + 1 * (y 1).val) :
    oddRows m H y = halfT 1 w (r.emb z) :=
  rows_piece w ch 1 _ _ _ _ _ _ _ _
    (fun y k k0 k1 k2 => rowsLd_apply m m' w ch o ho inb' H hH 0 1 inb_S8x256x128_S1x128x128_0_1_0_s_1_2_1 y k k0 k1 k2)
    (fun y k k0 k1 k2 => rowsLd_apply m m' w ch o ho inb' H hH 1 1 inb_S8x256x128_S1x128x128_1_1_0_s_1_2_1 y k k0 k1 k2)
    (fun y k k0 k1 k2 => rowsLd_apply m m' w ch o ho inb' H hH 2 1 inb_S8x256x128_S1x128x128_2_1_0_s_1_2_1 y k k0 k1 k2)
    (fun y k k0 k1 k2 => rowsLd_apply m m' w ch o ho inb' H hH 3 1 inb_S8x256x128_S1x128x128_3_1_0_s_1_2_1 y k k0 k1 k2)
    (fun y k k0 k1 k2 => rowsLd_apply m m' w ch o ho inb' H hH 4 1 inb_S8x256x128_S1x128x128_4_1_0_s_1_2_1 y k k0 k1 k2)
    (fun y k k0 k1 k2 => rowsLd_apply m m' w ch o ho inb' H hH 5 1 inb_S8x256x128_S1x128x128_5_1_0_s_1_2_1 y k k0 k1 k2)
    (fun y k k0 k1 k2 => rowsLd_apply m m' w ch o ho inb' H hH 6 1 inb_S8x256x128_S1x128x128_6_1_0_s_1_2_1 y k k0 k1 k2)
    (fun y k k0 k1 k2 => rowsLd_apply m m' w ch o ho inb' H hH 7 1 inb_S8x256x128_S1x128x128_7_1_0_s_1_2_1 y k k0 k1 k2)
    shapeCasts_S1x128x128_S128x128 shapeCasts_S128x1024_S128x1024
    concatenates_S128x128_S128x128_S128x128_S128x128_S128x128_S128x128_S128x128_S128x128_S128x1024_d1 r z y e0 e1

/-- All eight leave the half's transposed weights in the scratch. -/
theorem odd_fill (m : Memref sig .tc .vmem S8x256x128 .f32) (m' : Memref sig .tc .vmem S1x1024x2048 .f32) (w : S1x1024x2048.Idx → F .f32)
    (H0 H1 H2 H3 H4 H5 H6 H7 : List (View.Piece (Elt F) S8x256x128 .f32))
    (h0 : H0.take 8 = planes m' w 0 inb_S1x1024x2048_S1x1024x256_0_0_0)
    (h1 : H1.take 8 = planes m' w 256 inb_S1x1024x2048_S1x1024x256_0_0_256)
    (h2 : H2.take 8 = planes m' w 512 inb_S1x1024x2048_S1x1024x256_0_0_512)
    (h3 : H3.take 8 = planes m' w 768 inb_S1x1024x2048_S1x1024x256_0_0_768)
    (h4 : H4.take 8 = planes m' w 1024 inb_S1x1024x2048_S1x1024x256_0_0_1024)
    (h5 : H5.take 8 = planes m' w 1280 inb_S1x1024x2048_S1x1024x256_0_0_1280)
    (h6 : H6.take 8 = planes m' w 1536 inb_S1x1024x2048_S1x1024x256_0_0_1536)
    (h7 : H7.take 8 = planes m' w 1792 inb_S1x1024x2048_S1x1024x256_0_0_1792)
    (mo : Memref sig .tc .vmem S1024x1024 .bf16) (f : mo.view.ty.Contents (Elt F)) (L : List (View.Piece (Elt F) S1024x1024 .bf16))
    (hL : L = oddPieces m H0 H1 H2 H3 H4 H5 H6 H7) :
    mo.view.read (Elt F) (mo.view.writes (Elt F) f L) = halfT 1 w := by
  subst hL
  exact tiles_fill mo f _ _ ![128, 1024]
    ⟨fun y => oddRows_piece m m' w 7 1792 rfl _ H7 h7 _ y y rfl rfl,
     fun y => oddRows_piece m m' w 6 1536 rfl _ H6 h6 _ y y rfl rfl,
     fun y => oddRows_piece m m' w 5 1280 rfl _ H5 h5 _ y y rfl rfl,
     fun y => oddRows_piece m m' w 4 1024 rfl _ H4 h4 _ y y rfl rfl,
     fun y => oddRows_piece m m' w 3 768 rfl _ H3 h3 _ y y rfl rfl,
     fun y => oddRows_piece m m' w 2 512 rfl _ H2 h2 _ y y rfl rfl,
     fun y => oddRows_piece m m' w 1 256 rfl _ H1 h1 _ y y rfl rfl,
     fun y => oddRows_piece m m' w 0 0 rfl _ H0 h0 _ y y rfl rfl, trivial⟩ (by sl_kernel_rfl)

/-- A load of a whole buffer reads its contents. -/
theorem readAt_full {s : Shape} {e : EltTy} {sp : Space} (m : Memref sig .tc sp s e) (f : m.view.ty.Contents (Elt F)) {off : Fin s.rank → Nat}
    (h : ∀ a, off a = 0) (inb : ∀ a, off a + s.size a ≤ s.size a) :
    View.readAt (Elt F) m.view (Rect.unit off s.size inb).toLoadRect f = m.view.read (Elt F) f := by
  rw [View.readAt_eq_ld]
  exact View.ld_unit_lit inb _ h

/-- The whole of a shape as a rectangle puts every element at itself. -/
theorem emb_full {s : Shape} {off : Fin s.rank → Nat} (h : ∀ a, off a = 0) (inb : ∀ a, off a + s.size a ≤ s.size a)
    (z : (Rect.unit off s.size inb).shape.Idx) : (Rect.unit off s.size inb).emb z = z :=
  funext fun a => Fin.ext (by show off a + 1 * (z a).val = (z a).val; rw [h a]; omega)

/-- The rows of a block of tokens as the kernel stores them: token `r`'s lanes `128 c …` sit in row `8 r + c`. -/
def lanes (x : S4096x128.Idx → F .f32) (c : Fin 8) : S512x128.Idx → F .f32 := fun y =>
  x (ix2 (⟨c.val + 8 * (y 0).val, by have h : (y 0).val < 512 := (y 0).isLt; have := c.isLt; omega⟩ : Fin 4096) (⟨(y 1).val, (y 1).isLt⟩ : Fin 128))

/-- A load of every eighth row is one lane group of the block's tokens. -/
theorem lanes_read (m : Memref sig .tc .vmem S4096x128 .f32) (x : S4096x128.Idx → F .f32) (c : Fin 8) (B : LoadRect S4096x128)
    (z : B.shape.Idx) (y : S512x128.Idx) (e0 : (B.idx z 0).val = c.val + 8 * (y 0).val) (e1 : (B.idx z 1).val = 0 + 1 * (y 1).val) :
    View.readAt (Elt F) m.view B (m.view.rep x) z = lanes x c y := by
  rw [View.readAt_rep]
  refine congrArg x (funext fun a => Fin.ext ?_)
  match a with
  | ⟨0, _⟩ => exact e0
  | ⟨1, _⟩ => exact e1.trans (by show 0 + 1 * (y 1).val = (y 1).val; omega)

/-- A [512, 1024] tile as a block of the result stores it: row `8 r + c` holds lanes `128 c …` of the tile's row `r`. -/
def lay (T : S512x1024.Idx → F .f32) : S4096x128.Idx → F .f32 := fun j =>
  T (ix2 (⟨(j 0).val / 8, by have h : (j 0).val < 4096 := (j 0).isLt; omega⟩ : Fin 512)
    (⟨128 * ((j 0).val % 8) + (j 1).val, by have h : (j 1).val < 128 := (j 1).isLt; omega⟩ : Fin 1024))

/-- What is stored to every eighth row is the tile's lane group. -/
theorem lay_piece (T : S512x1024.Idx → F .f32) (c : Fin 8) (q : Nat) (hq : q = 128 * c.val) (h : S512x1024.Slices ![0, q] S512x128)
    (r : Rect S4096x128) (z : r.shape.Idx) (y : S512x128.Idx) (e0 : (r.emb z 0).val = c.val + 8 * (y 0).val)
    (e1 : (r.emb z 1).val = 0 + 1 * (y 1).val) :
    extractStridedSlice S512x128 ![0, q] T h y = lay T (r.emb z) := by
  have hc := c.isLt
  subst hq
  unfold lay
  refine extractStridedSlice_apply _ _ h _ _ fun a => ?_
  match a with
  | ⟨0, _⟩ => show (r.emb z 0).val / 8 = 0 + (y 0).val; omega
  | ⟨1, _⟩ => show 128 * ((r.emb z 0).val % 8) + (r.emb z 1).val = 128 * c.val + (y 1).val; omega

/-- Stores to every eighth row, one for each residue, reach every row. -/
theorem lay_cover (L : List (View.Piece (Elt F) S4096x128 .f32))
    (h : ∀ c : Fin 8, ∃ p ∈ L, p.1.off 0 = c.val ∧ p.1.off 1 = 0 ∧ p.1.stride 0 = 8 ∧ p.1.stride 1 = 1 ∧ p.1.size 0 = 512 ∧ p.1.size 1 = 128)
    (y : S4096x128.Idx) : ∃ p ∈ L, y ∈ p.1.set := by
  have y0 : (y 0).val < 4096 := (y 0).isLt
  have y1 : (y 1).val < 128 := (y 1).isLt
  obtain ⟨p, hp, h1, h2, h3, h4, h5, h6⟩ := h ⟨(y 0).val % 8, by omega⟩
  refine ⟨p, hp, p.1.mem_set.mpr fun a => ?_⟩
  match a with
  | ⟨0, _⟩ => exact ⟨(y 0).val / 8, by show _ < p.1.size 0; omega, by
      show (y 0).val = p.1.off 0 + p.1.stride 0 * ((y 0).val / 8)
      rw [h1, h3]; show _ = (y 0).val % 8 + _; omega⟩
  | ⟨1, _⟩ => exact ⟨(y 1).val, by show _ < p.1.size 1; omega, by
      show (y 1).val = p.1.off 1 + p.1.stride 1 * (y 1).val
      rw [h2, h4]; omega⟩

/-- Stores of a tile's lane groups, one to every residue of eight rows, leave the tile laid out. -/
theorem lay_fill (m : Memref sig .tc .vmem S4096x128 .f32) (f : m.view.ty.Contents (Elt F)) (T : S512x1024.Idx → F .f32)
    (L : List (View.Piece (Elt F) S4096x128 .f32)) (hp : View.PiecesOf (lay T) L)
    (h : ∀ c : Fin 8, ∃ p ∈ L, p.1.off 0 = c.val ∧ p.1.off 1 = 0 ∧ p.1.stride 0 = 8 ∧ p.1.stride 1 = 1 ∧ p.1.size 0 = 512 ∧ p.1.size 1 = 128) :
    m.view.read (Elt F) (m.view.writes (Elt F) f L) = lay T := by
  rw [View.read_writes_eq_canon _ _ _ (lay_cover L h)]
  exact funext fun y => View.canon_apply_of_pieces (lay T) _ hp.mem y (lay_cover L h y)

/-- The tile a block of tokens gives through one expert: the clamped SwiGLU of the gate's and the up projection's products, through
the expert's down projection. -/
def tile (x : S4096x128.Idx → F .f32) (G U : S1024x1024.Idx → F .bf16) (bg bu : S1x1x1024.Idx → F .f32)
    (wd : S1x1024x1024.Idx → F .bf16) (bd : S1x1x1024.Idx → F .f32) : FVec F S512x1024 .f32 :=
  k0_pay144
    (k0_pay141 (lanes x 0) (lanes x 1) (lanes x 2) (lanes x 3) (lanes x 4) (lanes x 5) (lanes x 6) (lanes x 7) G bg)
    (k0_pay142 (lanes x 0) (lanes x 1) (lanes x 2) (lanes x 3) (lanes x 4) (lanes x 5) (lanes x 6) (lanes x 7) U bu)
    k0_pay143 wd bd

/-- A block's tile from loads known to be the lane groups of its tokens, and weights known to be `G` and `U`. -/
theorem tile_of (x : S4096x128.Idx → F .f32) (G U : S1024x1024.Idx → F .bf16) (bg bu : S1x1x1024.Idx → F .f32)
    (wd : S1x1024x1024.Idx → F .bf16) (bd : S1x1x1024.Idx → F .f32) (a0 a1 a2 a3 a4 a5 a6 a7 : S512x128.Idx → F .f32) (G' U' : S1024x1024.Idx → F .bf16)
    (bg' bu' : S1x1x1024.Idx → F .f32) (wd' : S1x1024x1024.Idx → F .bf16) (bd' : S1x1x1024.Idx → F .f32)
    (h0 : a0 = lanes x 0) (h1 : a1 = lanes x 1) (h2 : a2 = lanes x 2) (h3 : a3 = lanes x 3) (h4 : a4 = lanes x 4) (h5 : a5 = lanes x 5) (h6 : a6 = lanes x 6) (h7 : a7 = lanes x 7)
    (hG : G' = G) (hU : U' = U) (hbg : bg' = bg) (hbu : bu' = bu) (hwd : wd' = wd) (hbd : bd' = bd) :
    k0_pay144 (k0_pay141 a0 a1 a2 a3 a4 a5 a6 a7 G' bg') (k0_pay142 a0 a1 a2 a3 a4 a5 a6 a7 U' bu') k0_pay143 wd' bd' = tile x G U bg bu wd bd := by
  subst h0 h1 h2 h3 h4 h5 h6 h7 hG hU hbg hbu hwd hbd; rfl

end Cert.Proof.Experts
-- ==== Proof.Body.lean ====
module

public import proofs.«01_k».proof.Proof.Prep
public import proofs.«01_k».proof.Proof.Gen.KernelIdeal.Launch
public import Idealize.ShloMosaic.Lib.Writes
public import Idealize.ShloMosaic.Lib.Exec

@[expose] public section

set_option maxRecDepth 16384

noncomputable section

namespace Cert.Proof.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The camera the launch runs in. -/
abbrev UR (nD : Nat) (τ : Topo) : Type := URounds (GSem nD τ sig) Unit
local notation "𝕄" => MT nD τ sig Unit (Elt F) ℕ (UR nD τ) ℕ

/-- The table of each block's expert, and the table of the one count of used blocks. -/
abbrev tabE : Memref sig .tc .smem S288 .i32 := Memref.whole main_v19
abbrev tabN : Memref sig .tc .smem S1 .i32 := Memref.whole main_v21

/-- The words a block reads: the count of used blocks, its own expert, and the expert of the block before it. -/
abbrev wN (T2 : S1.Idx → BitVec 32) : BitVec 32 :=
  View.readAt (Elt F) tabN.view (Rect.unit (s := S1) ![0] S1.size inb_S1_S1_0).toLoadRect T2 (Shape.Idx.first (by decide))
abbrev wE (i : grid0.Coords) (T1 : S288.Idx → BitVec 32) : BitVec 32 :=
  View.readAt (Elt F) tabE.view (Rect.unit (s := S288) (k0_off1 i) S1.size (k0_off1_inb i)).toLoadRect T1 (Shape.Idx.first (show 0 < S1.numel by decide))
abbrev wP (i : grid0.Coords) (T1 : S288.Idx → BitVec 32) : BitVec 32 :=
  View.readAt (Elt F) tabE.view (Rect.unit (s := S288) (k0_off2 i) S1.size (k0_off2_inb i)).toLoadRect T1 (Shape.Idx.first (show 0 < S1.numel by decide))

/-- The kernel's test for a block that starts a new expert: it is used, and it is the first block or its expert is not the
expert of the block before it. -/
def newWord (b n e p : BitVec 32) : BitVec 1 :=
  Scalar.cmpi .ne (Scalar.extui (Scalar.andi (Scalar.cmpi .slt b n) (Scalar.ori (Scalar.cmpi .eq b 0#32) (Scalar.cmpi .ne e p))) : BitVec 32) 0#32

/-- Block `i` starts a new expert. -/
abbrev isNew (i : grid0.Coords) (T1 : S288.Idx → BitVec 32) (T2 : S1.Idx → BitVec 32) : Prop :=
  newWord (BitVec.ofNat 32 (i 0).val) (wN (F := F) T2) (wE (F := F) i T1) (wP (F := F) i T1) = 1#1

/-- A weights scratch after a block: prepared anew when the block starts a new expert, kept otherwise. -/
def carry (i : grid0.Coords) (T1 : S288.Idx → BitVec 32) (T2 : S1.Idx → BitVec 32) (par : Fin 2) (w : S1x1024x2048.Idx → F .f32)
    (g : S1024x1024.Idx → F .bf16) : S1024x1024.Idx → F .bf16 :=
  if isNew (F := F) i T1 T2 then halfT par w else g

set_option maxHeartbeats 8000000 in
/-- A used block's run: the weights scratches are prepared when the block starts a new expert, and the block of the result is the
tile of the block's tokens through the weights the scratches then hold. -/
theorem run_active (c : Dev nD) (i : grid0.Coords)
    (arg3 : Memref sig .tc .vmem S4096x128 .f32) (harg3 : arg3.IsWhole) (arg4 : Memref sig .tc .vmem S1x1024x2048 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1024x1024 .bf16) (harg7 : arg7.IsWhole) (arg8 : Memref sig .tc .vmem S1x1x1024 .f32) (harg8 : arg8.IsWhole)
    (arg9 : Memref sig .tc .vmem S4096x128 .f32) (harg9 : arg9.IsWhole)
    (arg10 : Memref sig .tc .vmem S1024x1024 .bf16) (harg10 : arg10.IsWhole) (arg11 : Memref sig .tc .vmem S1024x1024 .bf16) (harg11 : arg11.IsWhole)
    (arg12 : Memref sig .tc .vmem S8x256x128 .f32) (harg12 : arg12.IsWhole)
    (T1 : S288.Idx → Elt F .i32) (T2 : S1.Idx → Elt F .i32)
    (x3 : S4096x128.Idx → Elt F .f32) (x4 : S1x1024x2048.Idx → Elt F .f32) (x5 x6 x8 : S1x1x1024.Idx → Elt F .f32) (x7 : S1x1024x1024.Idx → Elt F .bf16)
    (g u : S1024x1024.Idx → Elt F .bf16) (K : PUnit → sProp 𝕄)
    (hact : k0_cond2 i (wN (F := F) T2) = 1#1) (hidle : ¬ k0_cond3 i (wN (F := F) T2) = 1#1) :
    iprop((tabE.view.loc (c : Thread nD τ) ↦{fullShare.right} T1) ∗ (tabN.view.loc (c : Thread nD τ) ↦{fullShare.right} T2)
      ∗ (arg3.view.loc (c : Thread nD τ) ↦[arg3.view.set]{fullShare} arg3.view.rep x3)
      ∗ (arg4.view.loc (c : Thread nD τ) ↦[arg4.view.set]{fullShare} arg4.view.rep x4)
      ∗ (arg5.view.loc (c : Thread nD τ) ↦[arg5.view.set]{fullShare} arg5.view.rep x5)
      ∗ (arg6.view.loc (c : Thread nD τ) ↦[arg6.view.set]{fullShare} arg6.view.rep x6)
      ∗ (arg7.view.loc (c : Thread nD τ) ↦[arg7.view.set]{fullShare} arg7.view.rep x7)
      ∗ (arg8.view.loc (c : Thread nD τ) ↦[arg8.view.set]{fullShare} arg8.view.rep x8)
      ∗ (∃ d, owns (c : Thread nD τ) arg9 fullShare d)
      ∗ (arg10.view.loc (c : Thread nD τ) ↦[arg10.view.set]{fullShare} arg10.view.rep g)
      ∗ (arg11.view.loc (c : Thread nD τ) ↦[arg11.view.set]{fullShare} arg11.view.rep u)
      ∗ (∃ d, owns (c : Thread nD τ) arg12 fullShare d)
      ∗ ((tabE.view.loc (c : Thread nD τ) ↦{fullShare.right} T1) ∗ (tabN.view.loc (c : Thread nD τ) ↦{fullShare.right} T2)
        ∗ (arg3.view.loc (c : Thread nD τ) ↦[arg3.view.set]{fullShare} arg3.view.rep x3)
        ∗ (arg4.view.loc (c : Thread nD τ) ↦[arg4.view.set]{fullShare} arg4.view.rep x4)
        ∗ (arg5.view.loc (c : Thread nD τ) ↦[arg5.view.set]{fullShare} arg5.view.rep x5)
        ∗ (arg6.view.loc (c : Thread nD τ) ↦[arg6.view.set]{fullShare} arg6.view.rep x6)
        ∗ (arg7.view.loc (c : Thread nD τ) ↦[arg7.view.set]{fullShare} arg7.view.rep x7)
        ∗ (arg8.view.loc (c : Thread nD τ) ↦[arg8.view.set]{fullShare} arg8.view.rep x8)
        ∗ owns (c : Thread nD τ) arg9 fullShare (lay (tile x3 (carry i T1 T2 0 x4 g) (carry i T1 T2 1 x4 u) x5 x6 x7 x8))
        ∗ owns (c : Thread nD τ) arg10 fullShare (carry i T1 T2 0 x4 g) ∗ owns (c : Thread nD τ) arg11 fullShare (carry i T1 T2 1 x4 u)
        ∗ (∃ d, owns (c : Thread nD τ) arg12 fullShare d) -∗ K ⟨⟩))
     ⊢ wp frame (wpE (defs₀ (F := F)) Variants.none c none) Set.univ (cc0_moe_experts i tabE (Memref.isWhole_whole _) tabN (Memref.isWhole_whole _) arg3 harg3 arg4 harg4 arg5 harg5 arg6 harg6 arg7 harg7 arg8 harg8 arg9 harg9 arg10 harg10 arg11 harg11 arg12 harg12) K := by
  unfold owns
  rw [cc0_moe_experts_eq_skeleton]; unfold cc0_moe_experts_skel
  iintro ⟨HT1, HT2, H3, H4, H5, H6, H7, H8, ⟨%d9, %f9, -, H9⟩, H10, H11, ⟨%d12, %f12, -, H12⟩, Hk⟩
  have hT1 : tabE.IsWhole := Memref.isWhole_whole _
  have hT2 : tabN.IsWhole := Memref.isWhole_whole _
  sl_exec!
  have hp0 : (run_active.sl.H12_8 arg4 x4).take 8 = planes arg4 x4 0 inb_S1x1024x2048_S1x1024x256_0_0_0 := by sl_kernel_rfl
  have hp1 : (run_active.sl.H12_16 arg4 x4).take 8 = planes arg4 x4 256 inb_S1x1024x2048_S1x1024x256_0_0_256 := by sl_kernel_rfl
  have hp2 : (run_active.sl.H12_24 arg4 x4).take 8 = planes arg4 x4 512 inb_S1x1024x2048_S1x1024x256_0_0_512 := by sl_kernel_rfl
  have hp3 : (run_active.sl.H12_32 arg4 x4).take 8 = planes arg4 x4 768 inb_S1x1024x2048_S1x1024x256_0_0_768 := by sl_kernel_rfl
  have hp4 : (run_active.sl.H12_40 arg4 x4).take 8 = planes arg4 x4 1024 inb_S1x1024x2048_S1x1024x256_0_0_1024 := by sl_kernel_rfl
  have hp5 : (run_active.sl.H12_48 arg4 x4).take 8 = planes arg4 x4 1280 inb_S1x1024x2048_S1x1024x256_0_0_1280 := by sl_kernel_rfl
  have hp6 : (run_active.sl.H12_56 arg4 x4).take 8 = planes arg4 x4 1536 inb_S1x1024x2048_S1x1024x256_0_0_1536 := by sl_kernel_rfl
  have hp7 : (run_active.sl.H12_64 arg4 x4).take 8 = planes arg4 x4 1792 inb_S1x1024x2048_S1x1024x256_0_0_1792 := by sl_kernel_rfl
  have earg10 : run_active.sl.v37_1 c i arg4 arg10 arg12 T1 T2 x4 g = carry i T1 T2 0 x4 g := by
    refine (readAt_full arg10 _ (fun a => match a with | ⟨0, _⟩ => rfl | ⟨1, _⟩ => rfl) inb_S1024x1024_S1024x1024_0_0).trans ?_
    unfold carry
    by_cases hn : isNew (F := F) i T1 T2
    · rw [if_pos hn, dif_pos (show run_active.sl.v13 i T1 T2 = 1#1 from hn)]
      exact even_fill arg12 arg4 x4 _ _ _ _ _ _ _ _ hp0 hp1 hp2 hp3 hp4 hp5 hp6 hp7 arg10 _ _ (by sl_kernel_rfl)
    · rw [if_neg hn, dif_neg (show ¬ run_active.sl.v13 i T1 T2 = 1#1 from hn)]
      exact View.read_rep _ _
  have earg11 : run_active.sl.v43_1 c i arg4 arg11 arg12 T1 T2 x4 u = carry i T1 T2 1 x4 u := by
    refine (readAt_full arg11 _ (fun a => match a with | ⟨0, _⟩ => rfl | ⟨1, _⟩ => rfl) inb_S1024x1024_S1024x1024_0_0).trans ?_
    unfold carry
    by_cases hn : isNew (F := F) i T1 T2
    · rw [if_pos hn, dif_pos (show run_active.sl.v13 i T1 T2 = 1#1 from hn)]
      exact odd_fill arg12 arg4 x4 _ _ _ _ _ _ _ _ hp0 hp1 hp2 hp3 hp4 hp5 hp6 hp7 arg11 _ _ (by sl_kernel_rfl)
    · rw [if_neg hn, dif_neg (show ¬ run_active.sl.v13 i T1 T2 = 1#1 from hn)]
      exact View.read_rep _ _
  have eT : (run_active.sl.r_41 c i arg3 arg4 arg5 arg6 arg7 arg8 arg10 arg11 arg12 T1 T2 x3 x4 x5 x6 x8 x7 g u) = tile x3 (carry i T1 T2 0 x4 g) (carry i T1 T2 1 x4 u) x5 x6 x7 x8 :=
    tile_of x3 (carry i T1 T2 0 x4 g) (carry i T1 T2 1 x4 u) x5 x6 x7 x8 _ _ _ _ _ _ _ _ _ _ _ _ _ _
      (by exact funext fun y => lanes_read arg3 x3 0 _ y y rfl rfl)
      (by exact funext fun y => lanes_read arg3 x3 1 _ y y rfl rfl)
      (by exact funext fun y => lanes_read arg3 x3 2 _ y y rfl rfl)
      (by exact funext fun y => lanes_read arg3 x3 3 _ y y rfl rfl)
      (by exact funext fun y => lanes_read arg3 x3 4 _ y y rfl rfl)
      (by exact funext fun y => lanes_read arg3 x3 5 _ y y rfl rfl)
      (by exact funext fun y => lanes_read arg3 x3 6 _ y y rfl rfl)
      (by exact funext fun y => lanes_read arg3 x3 7 _ y y rfl rfl)
      (by exact earg10) (by exact earg11)
      (by exact (readAt_full arg5 _ (fun a => match a with | ⟨0, _⟩ => rfl | ⟨1, _⟩ => rfl | ⟨2, _⟩ => rfl) inb_S1x1x1024_S1x1x1024_0_0_0).trans (View.read_rep _ _))
      (by exact (readAt_full arg6 _ (fun a => match a with | ⟨0, _⟩ => rfl | ⟨1, _⟩ => rfl | ⟨2, _⟩ => rfl) inb_S1x1x1024_S1x1x1024_0_0_0).trans (View.read_rep _ _))
      (by exact (readAt_full arg7 _ (fun a => match a with | ⟨0, _⟩ => rfl | ⟨1, _⟩ => rfl | ⟨2, _⟩ => rfl) inb_S1x1024x1024_S1x1024x1024_0_0_0).trans (View.read_rep _ _))
      (by exact (readAt_full arg8 _ (fun a => match a with | ⟨0, _⟩ => rfl | ⟨1, _⟩ => rfl | ⟨2, _⟩ => rfl) inb_S1x1x1024_S1x1x1024_0_0_0).trans (View.read_rep _ _))
  sl_step
  iapply Hk
  isplitl [HT1]; · iexact HT1
  isplitl [HT2]; · iexact HT2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro
    exact (lay_fill arg9 _ (run_active.sl.r_41 c i arg3 arg4 arg5 arg6 arg7 arg8 arg10 arg11 arg12 T1 T2 x3 x4 x5 x6 x8 x7 g u) _
      (by exact ⟨fun y => lay_piece (run_active.sl.r_41 c i arg3 arg4 arg5 arg6 arg7 arg8 arg10 arg11 arg12 T1 T2 x3 x4 x5 x6 x8 x7 g u) 7 896 rfl slices_S512x1024_o0_896_S512x128 _ y y rfl rfl,
        fun y => lay_piece (run_active.sl.r_41 c i arg3 arg4 arg5 arg6 arg7 arg8 arg10 arg11 arg12 T1 T2 x3 x4 x5 x6 x8 x7 g u) 6 768 rfl slices_S512x1024_o0_768_S512x128 _ y y rfl rfl,
        fun y => lay_piece (run_active.sl.r_41 c i arg3 arg4 arg5 arg6 arg7 arg8 arg10 arg11 arg12 T1 T2 x3 x4 x5 x6 x8 x7 g u) 5 640 rfl slices_S512x1024_o0_640_S512x128 _ y y rfl rfl,
        fun y => lay_piece (run_active.sl.r_41 c i arg3 arg4 arg5 arg6 arg7 arg8 arg10 arg11 arg12 T1 T2 x3 x4 x5 x6 x8 x7 g u) 4 512 rfl slices_S512x1024_o0_512_S512x128 _ y y rfl rfl,
        fun y => lay_piece (run_active.sl.r_41 c i arg3 arg4 arg5 arg6 arg7 arg8 arg10 arg11 arg12 T1 T2 x3 x4 x5 x6 x8 x7 g u) 3 384 rfl slices_S512x1024_o0_384_S512x128 _ y y rfl rfl,
        fun y => lay_piece (run_active.sl.r_41 c i arg3 arg4 arg5 arg6 arg7 arg8 arg10 arg11 arg12 T1 T2 x3 x4 x5 x6 x8 x7 g u) 2 256 rfl slices_S512x1024_o0_256_S512x128 _ y y rfl rfl,
        fun y => lay_piece (run_active.sl.r_41 c i arg3 arg4 arg5 arg6 arg7 arg8 arg10 arg11 arg12 T1 T2 x3 x4 x5 x6 x8 x7 g u) 1 128 rfl slices_S512x1024_o0_128_S512x128 _ y y rfl rfl,
        fun y => lay_piece (run_active.sl.r_41 c i arg3 arg4 arg5 arg6 arg7 arg8 arg10 arg11 arg12 T1 T2 x3 x4 x5 x6 x8 x7 g u) 0 0 rfl slices_S512x1024_o0_0_S512x128 _ y y rfl rfl, trivial⟩)
      (by exact fun c => match c with
      | ⟨0, _⟩ => ⟨_, .tail _ (.tail _ (.tail _ (.tail _ (.tail _ (.tail _ (.tail _ (.head _))))))), rfl, rfl, rfl, rfl, rfl, rfl⟩
      | ⟨1, _⟩ => ⟨_, .tail _ (.tail _ (.tail _ (.tail _ (.tail _ (.tail _ (.head _)))))), rfl, rfl, rfl, rfl, rfl, rfl⟩
      | ⟨2, _⟩ => ⟨_, .tail _ (.tail _ (.tail _ (.tail _ (.tail _ (.head _))))), rfl, rfl, rfl, rfl, rfl, rfl⟩
      | ⟨3, _⟩ => ⟨_, .tail _ (.tail _ (.tail _ (.tail _ (.head _)))), rfl, rfl, rfl, rfl, rfl, rfl⟩
      | ⟨4, _⟩ => ⟨_, .tail _ (.tail _ (.tail _ (.head _))), rfl, rfl, rfl, rfl, rfl, rfl⟩
      | ⟨5, _⟩ => ⟨_, .tail _ (.tail _ (.head _)), rfl, rfl, rfl, rfl, rfl, rfl⟩
      | ⟨6, _⟩ => ⟨_, .tail _ (.head _), rfl, rfl, rfl, rfl, rfl, rfl⟩
      | ⟨7, _⟩ => ⟨_, .head _, rfl, rfl, rfl, rfl, rfl, rfl⟩)).trans (congrArg lay eT)
  isplitl [H10]
  · iexists _; isplitr; swap; · iexact H10
    ipureintro
    exact (readAt_full arg10 _ (fun a => match a with | ⟨0, _⟩ => rfl | ⟨1, _⟩ => rfl) inb_S1024x1024_S1024x1024_0_0).symm.trans earg10
  isplitl [H11]
  · iexists _; isplitr; swap; · iexact H11
    ipureintro
    exact (readAt_full arg11 _ (fun a => match a with | ⟨0, _⟩ => rfl | ⟨1, _⟩ => rfl) inb_S1024x1024_S1024x1024_0_0).symm.trans earg11
  iexists _
  iexists _; isplitr; swap; · iexact H12
  ipureintro; rfl

set_option maxHeartbeats 8000000 in
/-- An unused block's run: its block of the result is zero, and the scratches are kept. -/
theorem run_idle (c : Dev nD) (i : grid0.Coords)
    (arg3 : Memref sig .tc .vmem S4096x128 .f32) (harg3 : arg3.IsWhole) (arg4 : Memref sig .tc .vmem S1x1024x2048 .f32) (harg4 : arg4.IsWhole)
    (arg5 : Memref sig .tc .vmem S1x1x1024 .f32) (harg5 : arg5.IsWhole) (arg6 : Memref sig .tc .vmem S1x1x1024 .f32) (harg6 : arg6.IsWhole)
    (arg7 : Memref sig .tc .vmem S1x1024x1024 .bf16) (harg7 : arg7.IsWhole) (arg8 : Memref sig .tc .vmem S1x1x1024 .f32) (harg8 : arg8.IsWhole)
    (arg9 : Memref sig .tc .vmem S4096x128 .f32) (harg9 : arg9.IsWhole)
    (arg10 : Memref sig .tc .vmem S1024x1024 .bf16) (harg10 : arg10.IsWhole) (arg11 : Memref sig .tc .vmem S1024x1024 .bf16) (harg11 : arg11.IsWhole)
    (arg12 : Memref sig .tc .vmem S8x256x128 .f32) (harg12 : arg12.IsWhole)
    (T1 : S288.Idx → Elt F .i32) (T2 : S1.Idx → Elt F .i32)
    (x3 : S4096x128.Idx → Elt F .f32) (x4 : S1x1024x2048.Idx → Elt F .f32) (x5 x6 x8 : S1x1x1024.Idx → Elt F .f32) (x7 : S1x1024x1024.Idx → Elt F .bf16)
    (g u : S1024x1024.Idx → Elt F .bf16) (K : PUnit → sProp 𝕄)
    (hact : ¬ k0_cond2 i (wN (F := F) T2) = 1#1) (hidle : k0_cond3 i (wN (F := F) T2) = 1#1) (hnew : ¬ isNew (F := F) i T1 T2) :
    iprop((tabE.view.loc (c : Thread nD τ) ↦{fullShare.right} T1) ∗ (tabN.view.loc (c : Thread nD τ) ↦{fullShare.right} T2)
      ∗ (arg3.view.loc (c : Thread nD τ) ↦[arg3.view.set]{fullShare} arg3.view.rep x3)
      ∗ (arg4.view.loc (c : Thread nD τ) ↦[arg4.view.set]{fullShare} arg4.view.rep x4)
      ∗ (arg5.view.loc (c : Thread nD τ) ↦[arg5.view.set]{fullShare} arg5.view.rep x5)
      ∗ (arg6.view.loc (c : Thread nD τ) ↦[arg6.view.set]{fullShare} arg6.view.rep x6)
      ∗ (arg7.view.loc (c : Thread nD τ) ↦[arg7.view.set]{fullShare} arg7.view.rep x7)
      ∗ (arg8.view.loc (c : Thread nD τ) ↦[arg8.view.set]{fullShare} arg8.view.rep x8)
      ∗ (∃ d, owns (c : Thread nD τ) arg9 fullShare d)
      ∗ (arg10.view.loc (c : Thread nD τ) ↦[arg10.view.set]{fullShare} arg10.view.rep g)
      ∗ (arg11.view.loc (c : Thread nD τ) ↦[arg11.view.set]{fullShare} arg11.view.rep u)
      ∗ (∃ d, owns (c : Thread nD τ) arg12 fullShare d)
      ∗ ((tabE.view.loc (c : Thread nD τ) ↦{fullShare.right} T1) ∗ (tabN.view.loc (c : Thread nD τ) ↦{fullShare.right} T2)
        ∗ (arg3.view.loc (c : Thread nD τ) ↦[arg3.view.set]{fullShare} arg3.view.rep x3)
        ∗ (arg4.view.loc (c : Thread nD τ) ↦[arg4.view.set]{fullShare} arg4.view.rep x4)
        ∗ (arg5.view.loc (c : Thread nD τ) ↦[arg5.view.set]{fullShare} arg5.view.rep x5)
        ∗ (arg6.view.loc (c : Thread nD τ) ↦[arg6.view.set]{fullShare} arg6.view.rep x6)
        ∗ (arg7.view.loc (c : Thread nD τ) ↦[arg7.view.set]{fullShare} arg7.view.rep x7)
        ∗ (arg8.view.loc (c : Thread nD τ) ↦[arg8.view.set]{fullShare} arg8.view.rep x8)
        ∗ owns (c : Thread nD τ) arg9 fullShare k0_pay4
        ∗ (∃ d, owns (c : Thread nD τ) arg10 fullShare d) ∗ (∃ d, owns (c : Thread nD τ) arg11 fullShare d)
        ∗ (∃ d, owns (c : Thread nD τ) arg12 fullShare d) -∗ K ⟨⟩))
     ⊢ wp frame (wpE (defs₀ (F := F)) Variants.none c none) Set.univ (cc0_moe_experts i tabE (Memref.isWhole_whole _) tabN (Memref.isWhole_whole _) arg3 harg3 arg4 harg4 arg5 harg5 arg6 harg6 arg7 harg7 arg8 harg8 arg9 harg9 arg10 harg10 arg11 harg11 arg12 harg12) K := by
  unfold owns
  rw [cc0_moe_experts_eq_skeleton]; unfold cc0_moe_experts_skel
  iintro ⟨HT1, HT2, H3, H4, H5, H6, H7, H8, ⟨%d9, %f9, -, H9⟩, H10, H11, ⟨%d12, %f12, -, H12⟩, Hk⟩
  have hT1 : tabE.IsWhole := Memref.isWhole_whole _
  have hT2 : tabN.IsWhole := Memref.isWhole_whole _
  sl_exec!
  sl_step
  iapply Hk
  isplitl [HT1]; · iexact HT1
  isplitl [HT2]; · iexact HT2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro
    exact tiles_fill arg9 _ k0_pay4 _ ![4096, 128] ⟨fun _ => rfl, trivial⟩ (by sl_kernel_rfl)
  isplitl [H10]
  · iexists _; iexists _; isplitr; swap; · iexact H10
    ipureintro; rfl
  isplitl [H11]
  · iexists _; iexists _; isplitr; swap; · iexact H11
    ipureintro; rfl
  iexists _
  iexists _; isplitr; swap; · iexact H12
  ipureintro; rfl

end Cert.Proof.Experts
-- ==== Proof.Tables.lean ====
/- The tables the kernel is launched with: each block's expert and the count of used blocks, as the host's operations compute
   them from the experts' row counts, and what the launch needs of them — an expert's number is below 32. -/
module

public import proofs.«01_k».proof.Proof.Body
public import Idealize.ShloMosaic.Lib.StableHlo.RunRead
public import Idealize.ShloMosaic.Lib.IndicatorCount

@[expose] public section

set_option maxRecDepth 16384

noncomputable section

namespace Cert.Proof.Experts

open Cert.KernelIdeal Cert.KernelIdeal.Gen
open Idealize.ShloMosaic Idealize.ShloMosaic.ValueIdx
open Idealize.ShloMosaic.TcCoe Idealize.ShloMosaic.Tactic
open Idealize.SL.Sem

variable {F : FTy → Type} [FloatOps F]

/-- Words divided by 512, rounded down. -/
def floorDiv (s : Shape) (h : S_.BroadcastsInDim s (![] : Fin 0 → Fin s.rank)) (x : s.Idx → BitVec 32) : s.Idx → BitVec 32 :=
  select (andi (cmpi .ne (signi x) (broadcastInDim s ![] h (signi (constantI S_ 32 512#32))))
      (cmpi .ne (Host.remsi x (broadcastInDim s ![] h (constantI S_ 32 512#32))) (broadcastInDim s ![] h (constantI S_ 32 0#32))))
    (subi (Host.divsi x (broadcastInDim s ![] h (constantI S_ 32 512#32))) (broadcastInDim s ![] h (constantI S_ 32 1#32)))
    (Host.divsi x (broadcastInDim s ![] h (constantI S_ 32 512#32)))

/-- Where each expert's rows end, padding counted: the running sums of the counts rounded up to whole blocks. -/
def ends (n : S32.Idx → BitVec 32) : S32.Idx → BitVec 32 :=
  Host.reduceWindow IntOp.addi ![32] ![1] ![31] ![0]
    (muli (floorDiv S32 bcast_S_S32 (subi (addi n (broadcastInDim S32 ![] bcast_S_S32 (constantI S_ 32 512#32)))
      (broadcastInDim S32 ![] bcast_S_S32 (constantI S_ 32 1#32)))) (broadcastInDim S32 ![] bcast_S_S32 (constantI S_ 32 512#32)))
    (broadcastInDim S_ ![] bcast_S_S_ (constantI S_ 32 0#32)) reduceWindows_S32_S32_w32s1p31_0 h_S_

/-- Whether an expert's rows end at or before a block's first row. -/
def past (n : S32.Idx → BitVec 32) : S288x32.Idx → BitVec 1 :=
  cmpi .sle (broadcastInDim S288x32 ![0, 1] bcast_S1x32_S288x32_0_1 (broadcastInDim S1x32 ![1] bcast_S32_S1x32_1 (ends n)))
    (broadcastInDim S288x32 ![0, 1] bcast_S288x1_S288x32_0_1 (broadcastInDim S288x1 ![0] bcast_S288_S288x1_0
      (muli (iotaInDim S288 32 0) (broadcastInDim S288 ![] bcast_S_S288 (constantI S_ 32 512#32)))))

/-- Each block's expert: the count of the experts whose rows end before it, at most 31. -/
def expert (x : S288x32.Idx → BitVec 1) : S288.Idx → BitVec 32 :=
  minsi (Host.reduce IntOp.addi (extui 32 x natLt_1_32) (constantI S_ 32 0#32) reducesTo_S288x32_S288_d1 h_S_)
    (broadcastInDim S288 ![] bcast_S_S288 (constantI S_ 32 31#32))

/-- The count of used blocks. -/
def used (n : S32.Idx → BitVec 32) : S1.Idx → BitVec 32 :=
  floorDiv S1 bcast_S_S1 (extractStridedSlice S1 ![31] (ends n) slices_S32_S1_31)

/-- The host's operations before the kernel. -/
def opss : List (List (HloOp τ sig (Elt F))) := [hostOps0, hostOps0_1, hostOps0_2, hostOps0_3, hostOps0_4, hostOps0_5, hostOps0_6]

/-- What each array holds when the kernel starts. -/
def atStart (m : (ℓ : Loc nD τ sig) → Buf (Elt F) ℓ) (c : Dev nD) (b : Ref sig .tc) : Buf (Elt F) ((c.tc : Thread nD τ).loc b) :=
  StableHlo.after opss.flatten (fun b => m (c, b)) b

variable (m : (ℓ : Loc nD τ sig) → Buf (Elt F) ℓ) (c : Dev nD)

/-- The counts of the experts' rows. -/
abbrev counts : S32.Idx → BitVec 32 := m (c, Proc.devRef .tc main_arg0)

/-- The table of the blocks' experts. -/
theorem start_expert : atStart m c main_v19 = expert (past (counts m c)) := by
  unfold atStart opss
  simp only [List.flatten_cons, List.flatten_nil, List.cons_append, List.nil_append]
  after_reads_simp
  sl_kernel_rfl

/-- The table of the count of used blocks. -/
theorem start_used : atStart m c main_v21 = used (counts m c) := by
  unfold atStart opss
  simp only [List.flatten_cons, List.flatten_nil, List.cons_append, List.nil_append]
  after_reads_simp
  sl_kernel_rfl

/-- The token rows, eight lanes groups of a row one under the other. -/
theorem start_v26 : atStart m c main_v26 = shapeCast S1179648x128 (m (c, Proc.devRef .tc main_arg1) : S147456x1024.Idx → F .f32) shapeCasts_S147456x1024_S1179648x128 := by
  unfold atStart opss
  simp only [List.flatten_cons, List.flatten_nil, List.cons_append, List.nil_append]
  after_reads_simp
  try rfl

/-- The gate's bias. -/
theorem start_v23 : atStart m c main_v23 = broadcastInDim S32x1x1024 ![0, 2] bcast_S32x1024_S32x1x1024_0_2 (Host.slice S32x1024 ![0, 0] ![1, 2] (m (c, Proc.devRef .tc main_arg3) : S32x2048.Idx → F .f32) slicesBy_S32x2048_S32x1024_0s1_0s2) := by
  unfold atStart opss
  simp only [List.flatten_cons, List.flatten_nil, List.cons_append, List.nil_append]
  after_reads_simp
  try rfl

/-- The up projection's bias. -/
theorem start_v25 : atStart m c main_v25 = broadcastInDim S32x1x1024 ![0, 2] bcast_S32x1024_S32x1x1024_0_2 (Host.slice S32x1024 ![0, 1] ![1, 2] (m (c, Proc.devRef .tc main_arg3) : S32x2048.Idx → F .f32) slicesBy_S32x2048_S32x1024_0s1_1s2) := by
  unfold atStart opss
  simp only [List.flatten_cons, List.flatten_nil, List.cons_append, List.nil_append]
  after_reads_simp
  try rfl

/-- The down weights, rounded. -/
theorem start_v27 : atStart m c main_v27 = truncf .bf16 (m (c, Proc.devRef .tc main_arg4) : S32x1024x1024.Idx → F .f32) bitsLt_bf16_f32 := by
  unfold atStart opss
  simp only [List.flatten_cons, List.flatten_nil, List.cons_append, List.nil_append]
  after_reads_simp
  try rfl

/-- The down projection's bias. -/
theorem start_v28 : atStart m c main_v28 = broadcastInDim S32x1x1024 ![0, 2] bcast_S32x1024_S32x1x1024_0_2 (m (c, Proc.devRef .tc main_arg5) : S32x1024.Idx → F .f32) := by
  unfold atStart opss
  simp only [List.flatten_cons, List.flatten_nil, List.cons_append, List.nil_append]
  after_reads_simp
  try rfl

/-- Argument 0 is as it was. -/
theorem start_arg0 : atStart m c main_arg0 = m (c, Proc.devRef .tc main_arg0) := by
  unfold atStart opss
  simp only [List.flatten_cons, List.flatten_nil, List.cons_append, List.nil_append]
  after_reads_simp

/-- Argument 1 is as it was. -/
theorem start_arg1 : atStart m c main_arg1 = m (c, Proc.devRef .tc main_arg1) := by
  unfold atStart opss
  simp only [List.flatten_cons, List.flatten_nil, List.cons_append, List.nil_append]
  after_reads_simp

/-- Argument 2 is as it was. -/
theorem start_arg2 : atStart m c main_arg2 = m (c, Proc.devRef .tc main_arg2) := by
  unfold atStart opss
  simp only [List.flatten_cons, List.flatten_nil, List.cons_append, List.nil_append]
  after_reads_simp

/-- Argument 3 is as it was. -/
theorem start_arg3 : atStart m c main_arg3 = m (c, Proc.devRef .tc main_arg3) := by
  unfold atStart opss
  simp only [List.flatten_cons, List.flatten_nil, List.cons_append, List.nil_append]
  after_reads_simp

/-- Argument 4 is as it was. -/
theorem start_arg4 : atStart m c main_arg4 = m (c, Proc.devRef .tc main_arg4) := by
  unfold atStart opss
  simp only [List.flatten_cons, List.flatten_nil, List.cons_append, List.nil_append]
  after_reads_simp

/-- Argument 5 is as it was. -/
theorem start_arg5 : atStart m c main_arg5 = m (c, Proc.devRef .tc main_arg5) := by
  unfold atStart opss
  simp only [List.flatten_cons, List.flatten_nil, List.cons_append, List.nil_append]
  after_reads_simp

/-- A block's expert is below 32. -/
theorem expert_le (x : S288x32.Idx → BitVec 1) (b : S288.Idx) : (expert x b).toNat ≤ 31 := by
  have hr : S288x32.Reduces [1] S288 := by decide
  obtain ⟨n, hn, hc⟩ : ∃ n : ℕ, n ≤ 32 ∧ Host.reduce IntOp.addi (extui 32 x natLt_1_32) (constantI S_ 32 0#32) reducesTo_S288x32_S288_d1 h_S_ b
      = BitVec.ofNat 32 n := by
    refine ⟨_, ?_, (Host.reduce_eq_fold_single IntOp.addi (extui 32 x natLt_1_32) (constantI S_ 32 0#32) reducesTo_S288x32_S288_d1 hr h_S_ b).trans
      (IndicatorCount.fold_addi_setWidth_eq_card (fun k => x (hr.lift b k)) _)⟩
    exact (Finset.card_filter_le _ _).trans (by decide)
  have he : expert x b = if (BitVec.ofNat 32 n).slt 31#32 then BitVec.ofNat 32 n else 31#32 := by
    rw [← hc]; rfl
  rw [he]
  split
  · rename_i h
    interval_cases n <;> first | decide | (exfalso; revert h; decide)
  · decide

/-- Block `i`'s number as the word the kernel makes of it. -/
theorem coord_toNat (i : grid0.Coords) : (BitVec.ofNat 32 (i 0).val).toNat = (i 0).val := by
  have : (i 0).val < 288 := (i 0).isLt
  rw [BitVec.toNat_ofNat]; omega

/-- The word a block reads for its expert is its own entry of the table. -/
theorem wE_eq (i : grid0.Coords) (T : S288.Idx → BitVec 32) : wE (F := F) i T = T (ix1 (⟨(i 0).val, (i 0).isLt⟩ : Fin 288)) := by
  refine (congrArg T (funext fun a => ?_) : T ((Rect.unit (s := S288) (k0_off1 i) S1.size (k0_off1_inb i)).emb (Shape.Idx.first (show 0 < S1.numel by decide))) = _)
  match a with
  | ⟨0, _⟩ =>
    refine Fin.ext ?_
    show k0_off1 i 0 + 1 * 0 = (i 0).val
    exact coord_toNat i

/-- The number of the block before, as the word the kernel makes of it. -/
theorem prev_word : ∀ b : Fin 288, b.val ≠ 0 → (Scalar.maxsi (Scalar.subi (BitVec.ofNat 32 b.val) 1#32) 0#32).toNat + 1 * 0 = b.val - 1 := by
  decide +kernel

/-- The word a block after the first reads for the block before it is that block's entry of the table. -/
theorem wP_eq (i : grid0.Coords) (T : S288.Idx → BitVec 32) (h : (i 0).val ≠ 0) :
    wP (F := F) i T = T (ix1 (⟨(i 0).val - 1, Nat.lt_of_le_of_lt (Nat.sub_le _ _) (i 0).isLt⟩ : Fin 288)) := by
  refine (congrArg T (funext fun a => ?_) : T ((Rect.unit (s := S288) (k0_off2 i) S1.size (k0_off2_inb i)).emb (Shape.Idx.first (show 0 < S1.numel by decide))) = _)
  match a with
  | ⟨0, _⟩ =>
    refine Fin.ext ?_
    show (Scalar.indexCast (Scalar.maxsi (Scalar.subi (BitVec.ofNat 32 (i 0).val) 1#32) 0#32) : BitVec 32).toNat + 1 * 0 = (i 0).val - 1
    have hl : (i 0).val < 288 := (i 0).isLt
    exact prev_word ⟨(i 0).val, hl⟩ h

/-- The word a block reads for the count of used blocks. -/
theorem wN_eq (T : S1.Idx → BitVec 32) : wN (F := F) T = T (ix1 (0 : Fin 1)) := by
  refine (congrArg T (funext fun a => ?_) : T ((Rect.unit (s := S1) ![0] S1.size inb_S1_S1_0).emb (Shape.Idx.first (show 0 < S1.numel by decide))) = _)
  match a with
  | ⟨0, _⟩ => rfl

/-- The tables' contents as the launch finds them. -/
def tables (m : (ℓ : Loc nD τ sig) → Buf (Elt F) ℓ) (c : Dev nD) : pre0.Contents (Elt F) := fun
  | 0 => expert (past (counts m c))
  | 1 => used (counts m c)
  | ⟨_ + 2, h⟩ => absurd h (Nat.not_lt.2 (Nat.le_add_left _ _))

/-- The word by which a block's weights are found is the block's expert. -/
theorem at_table (pf : pre0.Contents (Elt F)) (i : grid0.Coords) :
    (pf.at 0 (Rect.unit (s := S288) ![(Scalar.indexCast (BitVec.ofNat 32 (i 0).val) : Index).toNat] S1.size (k0_off1_inb i)) numel1_S1 : BitVec 32)
      = (pf 0 : S288.Idx → BitVec 32) (ix1 (⟨(i 0).val, (i 0).isLt⟩ : Fin 288)) := by
  refine (congrArg (pf 0 : S288.Idx → BitVec 32) (funext fun a => ?_))
  match a with
  | ⟨0, _⟩ =>
    refine Fin.ext ?_
    show (BitVec.ofNat 32 (i 0).val).toNat + 1 * 0 = (i 0).val
    exact coord_toNat i

/-- With every expert's number below 32 the launch's side condition holds: every block of weights lies in its array. -/
theorem ok_of_le (pf : pre0.Contents (Elt F)) (h : ∀ b, ((pf 0 : S288.Idx → BitVec 32) b).toNat ≤ 31) : ok0 pf := by
  have hT : ∀ i : grid0.Coords, (pf.at 0 (Rect.unit (s := S288) ![(Scalar.indexCast (BitVec.ofNat 32 (i 0).val) : Index).toNat] S1.size (k0_off1_inb i)) numel1_S1 : BitVec 32).toNat ≤ 31 :=
    fun i => by rw [at_table]; exact h _
  refine ⟨fun i => ⟨fun a => ?_, .inl rfl⟩, fun i => ⟨fun a => ?_, .inl rfl⟩, fun i => ⟨fun a => ?_, .inl rfl⟩,
    fun i => ⟨fun a => ?_, .inr (.inr ⟨by decide, rfl, rfl, rfl⟩)⟩, fun i => ⟨fun a => ?_, .inl rfl⟩⟩
  all_goals
    match a with
    | ⟨0, _⟩ => exact (congrArg (· ≤ 32) (Nat.mul_one _)).mpr (Nat.succ_le_succ (hT i))
    | ⟨1, _⟩ => exact Nat.le_of_eq rfl
    | ⟨2, _⟩ => exact Nat.le_of_eq rfl

/-- The tables found at launch are admissible. -/
def adm (m : (ℓ : Loc nD τ sig) → Buf (Elt F) ℓ) (c : Dev nD) : (pcfg0 (F := F)).Adm := ⟨tables m c, ok_of_le _ fun b => expert_le _ b⟩

/-- The tables are what the host's operations left. -/
theorem start_tables (k : Fin 2) : atStart m c (pre0.ref k) = tables m c k := by
  match k with
  | ⟨0, _⟩ => exact start_expert m c
  | ⟨1, _⟩ => exact start_used m c

end Cert.Proof.Experts
-- ==== Proof.Launch.lean ====
/- The kernel's launch: what every block of the result holds after its grid point, the invariant the points keep (the prepared
   weights in the scratches are the last used block's), the body's obligation at every point, and the run of the whole program. -/
module

public import proofs.«01_k».proof.Proof.Tables
public import Idealize.ShloMosaic.Lib.Pipeline.Frame
public import Idealize.ShloMosaic.Lib.Pipeline.FrameBody
public import Idealize.ShloMosaic.Lib.Pipeline.TableIdle

@[expose] public section

set_option maxRecDepth 16384

noncomputable section

namespace Cert.Proof.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR nD τ) ℕ

variable (m : (ℓ : Loc nD τ sig) → Buf (Elt F) ℓ)

/-- The pipeline at the tables found. -/
abbrev cfgA : Pipeline.Cfg sig Λ₀ := cfg0 (F := F) (adm m 0)

/-- A grid point's coordinates. -/
abbrev at' (t : Fin (cfgA m).N) : grid0.Coords := (cfgA m).grid.coords t

/-- The two tables. -/
abbrev T1 : S288.Idx → BitVec 32 := expert (past (counts m 0))
abbrev T2 : S1.Idx → BitVec 32 := used (counts m 0)

/-- Window `w`'s block at point `t`, of the arrays as the kernel starts. -/
def iblk (c : Dev nD) (w : Fin (cfgA m).W) (t : Fin (cfgA m).N) : (((cfgA m).win w).xblock ((cfgA m).grid.coords t)).Idx → Elt F ((cfgA m).win w).elt :=
  (((cfgA m).win w).blk t).view.read (Elt F) (atStart m c (Pipeline.arrRef spec0 w))

/-- The blocks by name: the tokens, the gate's and up projection's weights, their biases, the down weights and their bias. -/
def xB (c : Dev nD) (t : Fin (cfgA m).N) : S4096x128.Idx → Elt F .f32 := iblk m c (0 : Fin 7) t
def wB (c : Dev nD) (t : Fin (cfgA m).N) : S1x1024x2048.Idx → Elt F .f32 := iblk m c (1 : Fin 7) t
def bgB (c : Dev nD) (t : Fin (cfgA m).N) : S1x1x1024.Idx → Elt F .f32 := iblk m c (2 : Fin 7) t
def buB (c : Dev nD) (t : Fin (cfgA m).N) : S1x1x1024.Idx → Elt F .f32 := iblk m c (3 : Fin 7) t
def wdB (c : Dev nD) (t : Fin (cfgA m).N) : S1x1024x1024.Idx → Elt F .bf16 := iblk m c (4 : Fin 7) t
def bdB (c : Dev nD) (t : Fin (cfgA m).N) : S1x1x1024.Idx → Elt F .f32 := iblk m c (5 : Fin 7) t

/-- Block `t` is used. -/
def Used (t : Fin (cfgA m).N) : Prop := k0_cond2 (at' m t) (wN (F := F) (T2 m)) = 1#1
instance (t : Fin (cfgA m).N) : Decidable (Used m t) := by unfold Used; infer_instance

/-- The result's block `t`. -/
def oB (c : Dev nD) (t : Fin (cfgA m).N) : S4096x128.Idx → Elt F .f32 :=
  if Used m t then lay (tile (xB m c t) (halfT 0 (wB m c t)) (halfT 1 (wB m c t)) (bgB m c t) (buB m c t) (wdB m c t) (bdB m c t)) else k0_pay4

/-- An expert's number as a row of the weights. -/
def rowOf (t : Fin (cfgA m).N) : Fin 32 :=
  ⟨(T1 m (ix1 (⟨(at' m t 0).val, (at' m t 0).isLt⟩ : Fin 288))).toNat, Nat.lt_succ_of_le (expert_le _ _)⟩

theorem word_row (t : Fin (cfgA m).N) :
    ((adm m 0).1.at 0 (Rect.unit (s := S288) ![(Scalar.indexCast (BitVec.ofNat 32 (at' m t 0).val) : Index).toNat] S1.size (k0_off1_inb (at' m t))) numel1_S1 : BitVec 32).toNat * 1 + 1 * 0 = (rowOf m t).val :=
  (Nat.mul_one _).trans (show _ = (T1 m (ix1 (⟨(at' m t 0).val, (at' m t 0).isLt⟩ : Fin 288))).toNat from congrArg BitVec.toNat (at_table (adm m 0).1 (at' m t)))

/-- A block of the gate's and up projection's weights is its expert's. -/
theorem wB_apply (c : Dev nD) (t : Fin (cfgA m).N) (y : S1x1024x2048.Idx) :
    wB m c t y = (atStart m c main_arg2 : S32x1024x2048.Idx → F .f32) (ix3 (rowOf m t) (y 1) (y 2)) := by
  refine congrArg (atStart m c main_arg2 : S32x1024x2048.Idx → F .f32) (funext fun a => Fin.ext ?_)
  match a with
  | ⟨0, _⟩ =>
    have h0 : (y 0).val = 0 := Nat.lt_one_iff.mp (y 0).isLt
    refine Eq.trans ?_ (word_row m t)
    show _ * 1 + 1 * (y 0).val = _
    rw [h0]; rfl
  | ⟨1, _⟩ => show 0 * 1024 + 1 * (y 1).val = (y 1).val; omega
  | ⟨2, _⟩ => show 0 * 2048 + 1 * (y 2).val = (y 2).val; omega

/-- The test of a used block, as an inequality of words. -/
theorem used_iff (i : grid0.Coords) (n : BitVec 32) : k0_cond2 i n = 1#1 ↔ (BitVec.ofNat 32 (i 0).val).slt n = true := by
  unfold k0_cond2
  generalize BitVec.ofNat 32 (i 0).val = b
  show Scalar.cmpi .ne (Scalar.extui (Scalar.cmpi .slt b n) : BitVec 32) 0#32 = 1#1 ↔ _
  show BitVec.ofBool (BitVec.setWidth 32 (BitVec.ofBool (b.slt n)) != 0#32) = 1#1 ↔ _
  cases b.slt n <;> decide

/-- The opposite test. -/
theorem unused_iff (i : grid0.Coords) (n : BitVec 32) : k0_cond3 i n = 1#1 ↔ ¬ k0_cond2 i n = 1#1 := by
  rw [used_iff]
  unfold k0_cond3
  generalize BitVec.ofNat 32 (i 0).val = b
  show BitVec.ofBool (BitVec.setWidth 32 (BitVec.ofBool (b.slt n) ^^^ 1#1) != 0#32) = 1#1 ↔ _
  cases b.slt n <;> decide

/-- The test of a new expert. -/
theorem new_iff (b n e p : BitVec 32) : newWord b n e p = 1#1 ↔ b.slt n = true ∧ (b = 0#32 ∨ e ≠ p) := by
  unfold newWord
  show BitVec.ofBool (BitVec.setWidth 32 (BitVec.ofBool (b.slt n) &&& (BitVec.ofBool (b == 0#32) ||| BitVec.ofBool (e != p))) != 0#32) = 1#1 ↔ _
  have h1 : (b == 0#32) = decide (b = 0#32) := by by_cases h : b = 0#32 <;> simp [h]
  have h2 : (e != p) = !decide (e = p) := by by_cases h : e = p <;> simp [h]
  rw [h1, h2]
  cases b.slt n <;> by_cases hb : b = 0#32 <;> by_cases he : e = p <;> simp [hb, he]

/-- The block before a used block is used. -/
theorem used_prev (b : ℕ) (h : b + 1 < 288) (n : BitVec 32) (hs : (BitVec.ofNat 32 (b + 1)).slt n = true) : (BitVec.ofNat 32 b).slt n = true := by
  have key : ∀ k : ℕ, k < 288 → (BitVec.ofNat 32 k).toInt = (k : ℤ) := fun k hk => by
    rw [BitVec.toInt_eq_toNat_of_lt (by rw [BitVec.toNat_ofNat]; omega), BitVec.toNat_ofNat]; omega
  rw [BitVec.slt_eq_decide, decide_eq_true_eq, key _ (by omega)] at hs ⊢
  push_cast at hs; omega

theorem coords_val (t : Fin (cfgA m).N) : (at' m t 0).val = t.val := by
  have h : (at' m t 0).val = t.val / 1 % 288 := Pipeline.Grid.coords_val (G := grid0) t 0 rfl rfl
  have ht : t.val < 288 := t.isLt
  rw [h]; omega

/-- What the weights scratches hold before point `n`: the prepared weights of the block before, when that block is used. -/
def Held (c : Dev nD) (n : ℕ) (G U : S1024x1024.Idx → F .bf16) : Prop :=
  ∀ s : Fin (cfgA m).N, s.val + 1 = n → Used m s → G = halfT 0 (wB m c s) ∧ U = halfT 1 (wB m c s)

/-- At a used block the scratches hold its own prepared weights, prepared anew or kept. -/
theorem carry_eq (c : Dev nD) (t : Fin (cfgA m).N) (G U : S1024x1024.Idx → F .bf16) (hU : Used m t) (h : Held m c t.val G U) :
    carry (at' m t) (T1 m) (T2 m) 0 (wB m c t) G = halfT 0 (wB m c t) ∧ carry (at' m t) (T1 m) (T2 m) 1 (wB m c t) U = halfT 1 (wB m c t) := by
  unfold carry
  by_cases hn : isNew (F := F) (at' m t) (T1 m) (T2 m)
  · rw [if_pos hn, if_pos hn]; exact ⟨rfl, rfl⟩
  · rw [if_neg hn, if_neg hn]
    have hu := (used_iff _ _).mp hU
    have hn' : ¬ (BitVec.ofNat 32 (at' m t 0).val = 0#32 ∨ wE (F := F) (at' m t) (T1 m) ≠ wP (F := F) (at' m t) (T1 m)) := fun hh =>
      hn ((new_iff _ _ _ _).mpr ⟨hu, hh⟩)
    rw [not_or, not_not] at hn'
    obtain ⟨hb, he⟩ := hn'
    have hv := coords_val m t
    have hlt : t.val < 288 := by rw [← hv]; exact (at' m t 0).isLt
    have ht0 : (at' m t 0).val ≠ 0 := fun h0 => hb (by rw [h0])
    rw [wE_eq, wP_eq _ _ ht0] at he
    have hs : t.val - 1 < (cfgA m).N := Nat.lt_of_le_of_lt (Nat.sub_le _ _) t.isLt
    have hvs := coords_val m ⟨t.val - 1, hs⟩
    have hrow : rowOf m ⟨t.val - 1, hs⟩ = rowOf m t := by
      refine Fin.ext (show (T1 m _).toNat = (T1 m _).toNat from congrArg BitVec.toNat (Eq.trans (congrArg (T1 m) (congrArg ix1 (Fin.ext ?_))) he.symm))
      show (at' m ⟨t.val - 1, hs⟩ 0).val = (at' m t 0).val - 1
      rw [hvs, hv]
    have hw : wB m c ⟨t.val - 1, hs⟩ = wB m c t := funext fun y => by rw [wB_apply, wB_apply, hrow]
    have hus : Used m ⟨t.val - 1, hs⟩ := by
      refine (used_iff _ _).mpr ?_
      rw [hvs]
      rw [hv] at hu ht0
      refine used_prev (t.val - 1) (by omega) _ ?_
      rw [show t.val - 1 + 1 = t.val by omega]; exact hu
    have := h ⟨t.val - 1, hs⟩ (by show t.val - 1 + 1 = t.val; omega) hus
    rwa [hw] at this

/-- The invariant before a point: the tables, the weights scratches as `Held` says, the third scratch, the generator's register. -/
def Phi (c : Dev nD) (n : ℕ) : sProp 𝕄 :=
  iprop((tabE.view.loc (c : Thread nD τ) ↦{fullShare.right} T1 m) ∗ (tabN.view.loc (c : Thread nD τ) ↦{fullShare.right} T2 m)
    ∗ (∃ G : S1024x1024.Idx → Elt F .bf16, ∃ U : S1024x1024.Idx → Elt F .bf16, ⌜Held m c n G U⌝
        ∗ owns (c : Thread nD τ) (Memref.whole cc0_scratch0) fullShare G ∗ owns (c : Thread nD τ) (Memref.whole cc0_scratch1) fullShare U)
    ∗ (∃ d : S8x256x128.Idx → Elt F .f32, owns (c : Thread nD τ) (Memref.whole cc0_scratch2) fullShare d)
    ∗ (∃ r, prngReg c r))

/-- The pipeline's data: each input's block as found, the result's block as computed. -/
def dats (_ : Fin 1) (c : Dev nD) : Dat τ (Elt F) Unit ℕ (UR nD τ) ℕ (cfgA m) c where
  A w := atStart m c (Pipeline.arrRef spec0 w)
  after w t := match w with
    | ⟨0, _⟩ => iblk m c (0 : Fin 7) t
    | ⟨1, _⟩ => iblk m c (1 : Fin 7) t
    | ⟨2, _⟩ => iblk m c (2 : Fin 7) t
    | ⟨3, _⟩ => iblk m c (3 : Fin 7) t
    | ⟨4, _⟩ => iblk m c (4 : Fin 7) t
    | ⟨5, _⟩ => iblk m c (5 : Fin 7) t
    | ⟨6, _⟩ => oB m c t
  Φ t := Phi m c t.val
  q _ := fullShare
  owed _ := 0

theorem after0 (c : Dev nD) (t : Fin (cfgA m).N) : (dats m 0 c).after (0 : Fin 7) t = iblk m c (0 : Fin 7) t := rfl
theorem after1 (c : Dev nD) (t : Fin (cfgA m).N) : (dats m 0 c).after (1 : Fin 7) t = iblk m c (1 : Fin 7) t := rfl
theorem after2 (c : Dev nD) (t : Fin (cfgA m).N) : (dats m 0 c).after (2 : Fin 7) t = iblk m c (2 : Fin 7) t := rfl
theorem after3 (c : Dev nD) (t : Fin (cfgA m).N) : (dats m 0 c).after (3 : Fin 7) t = iblk m c (3 : Fin 7) t := rfl
theorem after4 (c : Dev nD) (t : Fin (cfgA m).N) : (dats m 0 c).after (4 : Fin 7) t = iblk m c (4 : Fin 7) t := rfl
theorem after5 (c : Dev nD) (t : Fin (cfgA m).N) : (dats m 0 c).after (5 : Fin 7) t = iblk m c (5 : Fin 7) t := rfl
theorem after6 (c : Dev nD) (t : Fin (cfgA m).N) : (dats m 0 c).after (6 : Fin 7) t = oB m c t := rfl

theorem before0 (c : Dev nD) (t : Fin (cfgA m).N) (d) : (dats m 0 c).before (0 : Fin 7) t d = iblk m c (0 : Fin 7) t :=
  ((dats m 0 c).before_in_eq_fetched (0 : Fin 7) rfl (fun _ => rfl) (fun _ _ _ => rfl) (fun t => by rw [after0]; unfold Dat.blockOf iblk; rfl) t d).trans
    (by unfold Dat.fetched Dat.blockOf iblk; rfl)
theorem before1 (c : Dev nD) (t : Fin (cfgA m).N) (d) : (dats m 0 c).before (1 : Fin 7) t d = iblk m c (1 : Fin 7) t :=
  ((dats m 0 c).before_in_eq_fetched (1 : Fin 7) rfl (fun _ => rfl) (fun _ _ _ => rfl) (fun t => by rw [after1]; unfold Dat.blockOf iblk; rfl) t d).trans
    (by unfold Dat.fetched Dat.blockOf iblk; rfl)
theorem before2 (c : Dev nD) (t : Fin (cfgA m).N) (d) : (dats m 0 c).before (2 : Fin 7) t d = iblk m c (2 : Fin 7) t :=
  ((dats m 0 c).before_in_eq_fetched (2 : Fin 7) rfl (fun _ => rfl) (fun _ _ _ => rfl) (fun t => by rw [after2]; unfold Dat.blockOf iblk; rfl) t d).trans
    (by unfold Dat.fetched Dat.blockOf iblk; rfl)
theorem before3 (c : Dev nD) (t : Fin (cfgA m).N) (d) : (dats m 0 c).before (3 : Fin 7) t d = iblk m c (3 : Fin 7) t :=
  ((dats m 0 c).before_in_eq_fetched (3 : Fin 7) rfl (fun _ => rfl) (fun _ _ _ => rfl) (fun t => by rw [after3]; unfold Dat.blockOf iblk; rfl) t d).trans
    (by unfold Dat.fetched Dat.blockOf iblk; rfl)
theorem before4 (c : Dev nD) (t : Fin (cfgA m).N) (d) : (dats m 0 c).before (4 : Fin 7) t d = iblk m c (4 : Fin 7) t :=
  ((dats m 0 c).before_in_eq_fetched (4 : Fin 7) rfl (fun _ => rfl) (fun _ _ _ => rfl) (fun t => by rw [after4]; unfold Dat.blockOf iblk; rfl) t d).trans
    (by unfold Dat.fetched Dat.blockOf iblk; rfl)
theorem before5 (c : Dev nD) (t : Fin (cfgA m).N) (d) : (dats m 0 c).before (5 : Fin 7) t d = iblk m c (5 : Fin 7) t :=
  ((dats m 0 c).before_in_eq_fetched (5 : Fin 7) rfl (fun _ => rfl) (fun _ _ _ => rfl) (fun t => by rw [after5]; unfold Dat.blockOf iblk; rfl) t d).trans
    (by unfold Dat.fetched Dat.blockOf iblk; rfl)

end Cert.Proof.Experts
-- ==== Proof.Point.lean ====
/- The kernel body at every grid point: a used block stores its tile, an unused one zeros, and the invariant goes on. -/
module

public import proofs.«01_k».proof.Proof.Launch

@[expose] public section

set_option maxRecDepth 16384

noncomputable section

namespace Cert.Proof.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR nD τ) ℕ

variable (m : (ℓ : Loc nD τ sig) → Buf (Elt F) ℓ)

/-- One of the two tests holds, whatever the count: the result's block is stored at every point. -/
theorem stored (i : grid0.Coords) (n : BitVec 32) : (!(k0_cond2 i n == 1#1) && !(k0_cond3 i n == 1#1)) = false := by
  by_cases h : k0_cond2 i n = 1#1
  · rw [beq_iff_eq.mpr h]; rfl
  · rw [beq_iff_eq.mpr ((unused_iff i n).mpr h)]; exact Bool.and_false _

/-- Every point stores its block of the result, whatever the tables. -/
theorem idle_stored (pf : pre0.Contents (Elt F)) (i : grid0.Coords) : idle0 pf (6 : Fin 7) i = false :=
  stored i (pf.atD 1 ![0])

theorem idle6_any (a : (pcfg0 (F := F)).Adm) (i : grid0.Coords) : (cfg0 a).idle (6 : Fin 7) i = false := idle_stored a.1 i

/-- Every point stores its block of the result. -/
theorem idle6 (t : Fin (cfgA m).N) : (cfgA m).idle (6 : Fin 7) ((cfgA m).grid.coords t) = false := idle6_any (adm m 0) _

set_option maxHeartbeats 4000000 in
/-- The body at a point, the windows listed. -/
theorem body_at (c : Dev nD) (t : Fin (cfgA m).N) :
    iprop((dats m 0 c).Φ t.castSucc ∗ (dats m 0 c).owesAt () t.castSucc
        ∗ (∃ d, owns (c : Thread nD τ) (spec0_0.stage ((cfgA m).slots t (0 : Fin 7))) fullShare ((dats m 0 c).before (0 : Fin 7) t d))
        ∗ (∃ d, owns (c : Thread nD τ) (spec0_1.stage ((cfgA m).slots t (1 : Fin 7))) fullShare ((dats m 0 c).before (1 : Fin 7) t d))
        ∗ (∃ d, owns (c : Thread nD τ) (spec0_2.stage ((cfgA m).slots t (2 : Fin 7))) fullShare ((dats m 0 c).before (2 : Fin 7) t d))
        ∗ (∃ d, owns (c : Thread nD τ) (spec0_3.stage ((cfgA m).slots t (3 : Fin 7))) fullShare ((dats m 0 c).before (3 : Fin 7) t d))
        ∗ (∃ d, owns (c : Thread nD τ) (spec0_4.stage ((cfgA m).slots t (4 : Fin 7))) fullShare ((dats m 0 c).before (4 : Fin 7) t d))
        ∗ (∃ d, owns (c : Thread nD τ) (spec0_5.stage ((cfgA m).slots t (5 : Fin 7))) fullShare ((dats m 0 c).before (5 : Fin 7) t d))
        ∗ (∃ d, owns (c : Thread nD τ) (spec0_6.stage ((cfgA m).slots t (6 : Fin 7))) fullShare ((dats m 0 c).before (6 : Fin 7) t d)))
      ⊢ wp frame (wpE (defs₀ (F := F)) Variants.none c none) Set.univ
        (cc0_moe_experts (at' m t) tabE (Memref.isWhole_whole _) tabN (Memref.isWhole_whole _)
          (spec0_0.stage ((cfgA m).slots t (0 : Fin 7))) (hstage0_0 (((cfgA m).slots t (0 : Fin 7)).cast nbuf0_0))
          (spec0_1.stage ((cfgA m).slots t (1 : Fin 7))) (hstage0_1 (((cfgA m).slots t (1 : Fin 7)).cast nbuf0_1))
          (spec0_2.stage ((cfgA m).slots t (2 : Fin 7))) (hstage0_2 (((cfgA m).slots t (2 : Fin 7)).cast nbuf0_2))
          (spec0_3.stage ((cfgA m).slots t (3 : Fin 7))) (hstage0_3 (((cfgA m).slots t (3 : Fin 7)).cast nbuf0_3))
          (spec0_4.stage ((cfgA m).slots t (4 : Fin 7))) (hstage0_4 (((cfgA m).slots t (4 : Fin 7)).cast nbuf0_4))
          (spec0_5.stage ((cfgA m).slots t (5 : Fin 7))) (hstage0_5 (((cfgA m).slots t (5 : Fin 7)).cast nbuf0_5))
          (spec0_6.stage ((cfgA m).slots t (6 : Fin 7))) (hstage0_6 (((cfgA m).slots t (6 : Fin 7)).cast nbuf0_6))
          (Memref.whole cc0_scratch0) (Memref.isWhole_whole _) (Memref.whole cc0_scratch1) (Memref.isWhole_whole _)
          (Memref.whole cc0_scratch2) (Memref.isWhole_whole _)) fun _ =>
          iprop((dats m 0 c).Φ t.succ ∗ (dats m 0 c).owesAt () t.succ
            ∗ bigSep Finset.univ fun w : Fin (cfgA m).W =>
                match (cfgA m).idle w ((cfgA m).grid.coords t) with
                | true =>
                  match ((cfgA m).win w).flush t with
                  | false => iprop(∃ d, owns (c : Thread nD τ) (((cfgA m).win w).stage ((cfgA m).slots t w)) fullShare ((dats m 0 c).before w t d))
                  | true => owns (c : Thread nD τ) (((cfgA m).win w).stage ((cfgA m).slots t w)) fullShare ((dats m 0 c).after w t)
                | false => owns (c : Thread nD τ) (((cfgA m).win w).stage ((cfgA m).slots t w)) fullShare ((dats m 0 c).after w t)) := by
  rw [bigSep_W0]
  rewrite [idle6 m t]
  simp only [before0, before1, before2, before3, before4, before5, after0, after1, after2, after3, after4, after5, after6]
  rewrite [show (dats m 0 c).Φ t.succ = Phi m c (t.val + 1) from rfl, show (dats m 0 c).Φ t.castSucc = Phi m c t.val from rfl,
    show (dats m 0 c).owesAt () t.succ = (dats m 0 c).owesAt () t.castSucc from rfl]
  unfold Phi
  iintro ⟨⟨HT1, HT2, ⟨%G, %U, %hG, HG, HU⟩, ⟨%d2, HS⟩, Hp⟩, Ho, ⟨%d0, H0⟩, ⟨%d1, H1⟩, ⟨%e2, H2⟩, ⟨%d3, H3⟩, ⟨%d4, H4⟩, ⟨%d5, H5⟩, ⟨%d6, H6⟩⟩
  by_cases hU : Used m t
  · have hc := carry_eq m c t G U hU hG
    have hi : ¬ k0_cond3 (at' m t) (wN (F := F) (T2 m)) = 1#1 := fun h => (unused_iff _ _).mp h hU
    iapply (run_active c (at' m t) _ (hstage0_0 _) _ (hstage0_1 _) _ (hstage0_2 _) _ (hstage0_3 _) _ (hstage0_4 _) _ (hstage0_5 _) _ (hstage0_6 _)
      _ (Memref.isWhole_whole _) _ (Memref.isWhole_whole _) _ (Memref.isWhole_whole _) (T1 m) (T2 m)
      (xB m c t) (wB m c t) (bgB m c t) (buB m c t) (bdB m c t) (wdB m c t) G U _ hU hi)
    isplitl [HT1]; · iexact HT1
    isplitl [HT2]; · iexact HT2
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iexists _; iexact H6
    isplitl [HG]; · iapply rep_of_owns; iexact HG
    isplitl [HU]; · iapply rep_of_owns; iexact HU
    isplitl [HS]; · iexists _; iexact HS
    rw [hc.1, hc.2]
    iintro ⟨HT1, HT2, H0, H1, H2, H3, H4, H5, H6, HG, HU, HS⟩
    isplitl [HT1 HT2 HG HU HS Hp]
    · isplitl [HT1]; · iexact HT1
      isplitl [HT2]; · iexact HT2
      isplitl [HG HU]
      · iexists _; iexists _
        isplitr; swap
        · isplitl [HG]; · iexact HG
          iexact HU
        · ipureintro
          intro s hs _
          have : s = t := Fin.ext (Nat.succ.inj hs)
          rw [this]; exact ⟨rfl, rfl⟩
      isplitl [HS]; · iexact HS
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    rw [show oB m c t = _ from if_pos hU]
    iexact H6
  · have hi : k0_cond3 (at' m t) (wN (F := F) (T2 m)) = 1#1 := (unused_iff _ _).mpr hU
    have hn : ¬ isNew (F := F) (at' m t) (T1 m) (T2 m) := fun h => hU ((used_iff _ _).mpr ((new_iff _ _ _ _).mp h).1)
    iapply (run_idle c (at' m t) _ (hstage0_0 _) _ (hstage0_1 _) _ (hstage0_2 _) _ (hstage0_3 _) _ (hstage0_4 _) _ (hstage0_5 _) _ (hstage0_6 _)
      _ (Memref.isWhole_whole _) _ (Memref.isWhole_whole _) _ (Memref.isWhole_whole _) (T1 m) (T2 m)
      (xB m c t) (wB m c t) (bgB m c t) (buB m c t) (bdB m c t) (wdB m c t) G U _ hU hi hn)
    isplitl [HT1]; · iexact HT1
    isplitl [HT2]; · iexact HT2
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [H6]; · iexists _; iexact H6
    isplitl [HG]; · iapply rep_of_owns; iexact HG
    isplitl [HU]; · iapply rep_of_owns; iexact HU
    isplitl [HS]; · iexists _; iexact HS
    iintro ⟨HT1, HT2, H0, H1, H2, H3, H4, H5, H6, ⟨%g', HG⟩, ⟨%u', HU⟩, HS⟩
    isplitl [HT1 HT2 HG HU HS Hp]
    · isplitl [HT1]; · iexact HT1
      isplitl [HT2]; · iexact HT2
      isplitl [HG HU]
      · iexists _; iexists _
        isplitr; swap
        · isplitl [HG]; · iexact HG
          iexact HU
        · ipureintro
          intro s hs hus
          have : s = t := Fin.ext (Nat.succ.inj hs)
          rw [this] at hus; exact absurd hus hU
      isplitl [HS]; · iexact HS
      iexact Hp
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    rw [show oB m c t = _ from if_neg hU]
    iexact H6

/-- The body's obligation, at every point. -/
theorem body_obligation (c : Dev nD) : BodyObligation (dats m 0 c) (defs₀ (F := F)) Variants.none () Set.univ := fun t => by
  rw [bigSep_W0]
  exact body_at m c t

end Cert.Proof.Experts
-- ==== Proof.Run.lean ====
/- The run of the whole program, over any float values: it terminates from any memory, leaves the arguments as they were and the
   counters at zero, and the result is the blocks the grid's points stored. -/
module

public import proofs.«01_k».proof.Proof.Point
public import Idealize.ShloMosaic.Lib.Pipeline.Value

@[expose] public section

set_option maxRecDepth 16384

noncomputable section

namespace Cert.Proof.Experts

open Cert.KernelIdeal Cert.KernelIdeal.Gen
open Idealize.ShloMosaic Idealize.ShloMosaic.ValueIdx
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR nD τ) ℕ

variable (m : (ℓ : Loc nD τ sig) → Buf (Elt F) ℓ)

theorem share_eq (c : Dev nD) (w : Fin (cfgA m).W) : (dats m 0 c).share w = fullShare := by unfold Dat.share; split <;> rfl

/-- The two tables, one by one. -/
theorem prefHeld_eq (c : Dev nD) (q : Fin 2 → PosShare TreeShare) (v : pre0.Contents (Elt F)) :
    (Pipeline.prefHeld (Ix := Unit) (Name := ℕ) (U := UR nD τ) (Lvl := ℕ) pre0 c q v : sProp 𝕄)
      = iprop((((c : Thread nD τ).loc main_v19) ↦{q 0} v 0) ∗ (((c : Thread nD τ).loc main_v21) ↦{q 1} v 1)) := by
  unfold Pipeline.prefHeld
  rw [show (Finset.univ : Finset (Fin 2)) = insert (0 : Fin 2) {(1 : Fin 2)} from by decide, bigSep_insert (by decide), bigSep_singleton]
  rfl

/-- The invariant before the first point: nothing is said of the scratches yet. -/
theorem phi_start (c : Dev nD) :
    iprop(Pipeline.ΦA (Val := Elt F) (U := UR nD τ) spec0 c ∗ Pipeline.ΦT pre0 (adm m 0).1 c) ⊢ (dats m 0 c).Φ 0 := by
  rw [show (dats m 0 c).Φ 0 = Phi m c 0 from rfl]
  unfold Pipeline.ΦA Pipeline.ΦT Phi
  rw [prefHeld_eq, scopedRest0_eq]
  iintro ⟨⟨⟨⟨%f0, H0⟩, ⟨%f1, H1⟩, ⟨%f2, H2⟩⟩, Hp⟩, HT1, HT2⟩
  isplitl [HT1]; · iexact HT1
  isplitl [HT2]; · iexact HT2
  isplitl [H0 H1]
  · iexists f0; iexists f1
    isplitr; swap
    · isplitl [H0]
      · rw [owns_whole_eq]; iexists f0; isplitr; swap; · iexact H0
        ipureintro; rfl
      · rw [owns_whole_eq]; iexists f1; isplitr; swap; · iexact H1
        ipureintro; rfl
    · ipureintro
      intro s hs; exact absurd hs (Nat.succ_ne_zero _)
  isplitl [H2]
  · iexists f2; rw [owns_whole_eq]; iexists f2; isplitr; swap; · iexact H2
    ipureintro; rfl
  iexact Hp

/-- After the last point the scratches and the register are given back. -/
theorem phi_end (c : Dev nD) : (dats m 0 c).Φ (Fin.last (cfgA m).N) ⊢ Pipeline.ΦA (Val := Elt F) (U := UR nD τ) spec0 c := by
  rw [show (dats m 0 c).Φ (Fin.last (cfgA m).N) = Phi m c (cfgA m).N from rfl]
  unfold Pipeline.ΦA Phi
  rw [scopedRest0_eq]
  simp only [owns_whole_eq]
  iintro ⟨-, -, ⟨%G, %U, -, ⟨%f0, -, H0⟩, ⟨%f1, -, H1⟩⟩, ⟨%d, %f2, -, H2⟩, Hp⟩
  isplitr [Hp]
  · isplitl [H0]; · iexists f0; iexact H0
    isplitl [H1]; · iexists f1; iexact H1
    iexists f2; iexact H2
  iexact Hp

theorem opss_sub : (opss (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem opss_fresh : (opss (F := F)).Forall fun ops => ops.Forall fun op => op.fresh = ∅ := by
  unfold opss
  simp only [List.forall_cons, List.Forall]
  refine ⟨?_, ?_, ?_, ?_, ?_, ?_, ?_⟩ <;> repeat' constructor

/-- The result: the blocks the grid's points stored. -/
def result (c : Dev nD) : S1179648x128.Idx → F .f32 := (dats m 0 c).arrAt (6 : Fin 7) (cfgA m).N

set_option backward.isDefEq.respectTransparency.types false in
set_option maxHeartbeats 4000000 in
/-- The program's run: every execution ends with each window's array as the grid left it, every other array as the host's operations
left it, and the counters at zero. -/
theorem run_post (g : Dev nD → PrngReg) : θ_run (defs (F := F)) (onTc (τ := τ) (main (F := F))) ⟨m, fun _ => 0, g⟩
    (fun r => Pipeline.FramePost (Pipeline.pin (pcfgs (F := F)) fun _ => adm m 0) (dats m) 0 (fun c b => atStart m c b) r ∧ r.2.sem = fun _ => 0) :=
  Pipeline.θ_run_frameP_track pcfgs (fun _ => adm m 0) (dats m) (0 : Fin 1) launch0 defs₀ Variants.none m g main
    (fun c => (body_obligation m c).loose) (share_eq m) (fun _ _ => rfl) (fun c b => atStart m c b)
    (Pipeline.hmainP_prefixes pcfgs 0 defs₀ Variants.none m main opss opss_sub opss_fresh main_chain)
    (fun _ _ => rfl)
    (fun c k => by obtain rfl : c = 0 := Subsingleton.elim _ _; exact start_tables m 0 k)
    (phi_start m) (phi_end m) (Q' := fun r => Pipeline.FramePost (Pipeline.pin (pcfgs (F := F)) fun _ => adm m 0) (dats m) 0 (fun c b => atStart m c b) r ∧ r.2.sem = fun _ => 0) (hQ' := fun _ h => h)

theorem rest_arg0 : main_arg0 ∈ Pipeline.restRefs sig spec0 := by decide
theorem rest_arg1 : main_arg1 ∈ Pipeline.restRefs sig spec0 := by decide
theorem rest_arg3 : main_arg3 ∈ Pipeline.restRefs sig spec0 := by decide
theorem rest_arg4 : main_arg4 ∈ Pipeline.restRefs sig spec0 := by decide
theorem rest_arg5 : main_arg5 ∈ Pipeline.restRefs sig spec0 := by decide

/-- The run in plain words: the result is `result`, the arguments are unchanged, the counters are zero. -/
theorem run_main (g : Dev nD → PrngReg) : θ_run (defs (F := F)) (onTc (τ := τ) (main (F := F))) ⟨m, fun _ => 0, g⟩
    (fun r => (∀ c : Dev nD, r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨fun c => ⟨(h.1 c).1 (6 : Fin 7),
    ((h.1 c).2 main_arg0 rest_arg0).trans (start_arg0 m c),
    ((h.1 c).2 main_arg1 rest_arg1).trans (start_arg1 m c),
    (((h.1 c).1 (1 : Fin 7)).trans ((dats m 0 c).arrAt_in (1 : Fin 7) rfl _)).trans (start_arg2 m c),
    ((h.1 c).2 main_arg3 rest_arg3).trans (start_arg3 m c),
    ((h.1 c).2 main_arg4 rest_arg4).trans (start_arg4 m c),
    ((h.1 c).2 main_arg5 rest_arg5).trans (start_arg5 m c)⟩, h.2⟩) (run_post m g)

end Cert.Proof.Experts
-- ==== Proof.Frames.lean ====
/- The three frames: the kernel at bits and at the ideal numbers, both from the one run; the reference, which has no kernel. -/
module

public import proofs.«01_k».proof.Defs
public import proofs.«01_k».proof.Proof.Gen.Kernel
public import proofs.«01_k».proof.Proof.Gen.KernelIdeal
public import proofs.«01_k».proof.Proof.Gen.ReferenceIdeal.Run
public import proofs.«01_k».proof.Proof.Run
public import Idealize.ShloMosaic.Lib.Quiescent

@[expose] public section

noncomputable section

namespace Cert.Proof.Experts

open Idealize.ShloMosaic Idealize.ShloMosaic.TcCoe Idealize.SL.Sem Idealize.ShloMosaic.Tactic

/-- The ideal kernel ends with its arguments unchanged and its counters at zero. -/
theorem frame_ideal : Cert.quiescent_KernelIdeal := fun m g _ =>
  (θ_run Cert.KernelIdeal.defs _ _).mono (fun _ h => ⟨fun c => (h.1 c).2, h.2⟩) (run_main m g)

/-- The ideal kernel's frame over bits. -/
theorem frame_bits (m : (ℓ : Loc Cert.KernelIdeal.nD Cert.KernelIdeal.τ Cert.KernelIdeal.sig) → Buf (Elt Bits) ℓ) (g : Dev Cert.KernelIdeal.nD → PrngReg) :
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0) :=
  (θ_run Cert.KernelIdeal.defs _ _).mono (fun _ h => ⟨fun c => (h.1 c).2, h.2⟩) (run_main (F := Bits) m g)

/-- The kernel ends with its arguments unchanged and its counters at zero: at bits the two programs are one text. -/
theorem frame_kernel : Cert.quiescent_Kernel := by
  have h : (∀ m g, Cert.Pre_Kernel m → _) := fun m g (_ : Cert.Pre_Kernel m) => frame_bits m g
  refine Eq.mp ?_ h
  sl_kernel_rfl

/-- The reference ends with its arguments unchanged and its counters at zero. -/
theorem frame_reference : Cert.quiescent_ReferenceIdeal := fun m g _ =>
  (θ_run Cert.ReferenceIdeal.defs _ _).mono (fun r h => ⟨fun c => (h c).2, sem_eq_zero_of_no_sems (by decide) r.2⟩) (Cert.ReferenceIdeal.Value.run m g)

end Cert.Proof.Experts
-- ==== Proof.Blocks.lean ====
/- Each window's block in plain indices: the blocks of the tokens and of the result go with the grid's point, those of the weights and
   biases with the point's expert. -/
module

public import proofs.«01_k».proof.Proof.Launch
public import Idealize.ShloMosaic.Lib.Pipeline.Value
public import Idealize.ShloMosaic.Lib.Pipeline.ValueKit.Geometry

@[expose] public section

set_option maxRecDepth 16384

noncomputable section

namespace Cert.Proof.Experts

open Cert.KernelIdeal Cert.KernelIdeal.Gen
open Idealize.ShloMosaic Idealize.ShloMosaic.ValueIdx
open Idealize.ShloMosaic.TcCoe Idealize.ShloMosaic.Tactic
open Idealize.ShloMosaic.Pipeline (Dat Cfg Window)

variable {F : FTy → Type} [FloatOps F]

variable (m : (ℓ : Loc nD τ sig) → Buf (Elt F) ℓ)

/-- The word of a point's coordinate is the point's number. -/
theorem point_word (t : Fin (cfgA m).N) : (BitVec.ofNat 32 (at' m t 0).val).toNat = t.val := by
  have ht : t.val < 288 := t.isLt
  rw [coords_val, BitVec.toNat_ofNat]
  omega

/-- A block of the tokens: 4096 rows of lanes, point by point. -/
theorem xB_apply (c : Dev nD) (t : Fin (cfgA m).N) (y : S4096x128.Idx) :
    xB m c t y = (atStart m c main_v26 : S1179648x128.Idx → F .f32)
      (ix2 (⟨t.val * 4096 + (y 0).val, by have ht : t.val < 288 := t.isLt; have h : (y 0).val < 4096 := (y 0).isLt; omega⟩ : Fin 1179648) (y 1)) := by
  refine congrArg (atStart m c main_v26 : S1179648x128.Idx → F .f32) (funext fun a => Fin.ext ?_)
  match a with
  | ⟨0, _⟩ =>
    show (BitVec.ofNat 32 (at' m t 0).val).toNat * 4096 + 1 * (y 0).val = t.val * 4096 + (y 0).val
    rw [point_word, Nat.one_mul]
  | ⟨1, _⟩ => show 0 * 128 + 1 * (y 1).val = (y 1).val; omega

/-- A block of the gate's bias is its expert's. -/
theorem bgB_apply (c : Dev nD) (t : Fin (cfgA m).N) (y : S1x1x1024.Idx) :
    bgB m c t y = (atStart m c main_v23 : S32x1x1024.Idx → F .f32) (ix3 (rowOf m t) (y 1) (y 2)) := by
  refine congrArg (atStart m c main_v23 : S32x1x1024.Idx → F .f32) (funext fun a => Fin.ext ?_)
  match a with
  | ⟨0, _⟩ =>
    have h0 : (y 0).val = 0 := Nat.lt_one_iff.mp (y 0).isLt
    refine Eq.trans ?_ (word_row m t)
    show _ * 1 + 1 * (y 0).val = _
    rw [h0]; rfl
  | ⟨1, _⟩ => show 0 * 1 + 1 * (y 1).val = (y 1).val; omega
  | ⟨2, _⟩ => show 0 * 1024 + 1 * (y 2).val = (y 2).val; omega

/-- A block of the up projection's bias is its expert's. -/
theorem buB_apply (c : Dev nD) (t : Fin (cfgA m).N) (y : S1x1x1024.Idx) :
    buB m c t y = (atStart m c main_v25 : S32x1x1024.Idx → F .f32) (ix3 (rowOf m t) (y 1) (y 2)) := by
  refine congrArg (atStart m c main_v25 : S32x1x1024.Idx → F .f32) (funext fun a => Fin.ext ?_)
  match a with
  | ⟨0, _⟩ =>
    have h0 : (y 0).val = 0 := Nat.lt_one_iff.mp (y 0).isLt
    refine Eq.trans ?_ (word_row m t)
    show _ * 1 + 1 * (y 0).val = _
    rw [h0]; rfl
  | ⟨1, _⟩ => show 0 * 1 + 1 * (y 1).val = (y 1).val; omega
  | ⟨2, _⟩ => show 0 * 1024 + 1 * (y 2).val = (y 2).val; omega

/-- A block of the down weights is its expert's. -/
theorem wdB_apply (c : Dev nD) (t : Fin (cfgA m).N) (y : S1x1024x1024.Idx) :
    wdB m c t y = (atStart m c main_v27 : S32x1024x1024.Idx → F .bf16) (ix3 (rowOf m t) (y 1) (y 2)) := by
  refine congrArg (atStart m c main_v27 : S32x1024x1024.Idx → F .bf16) (funext fun a => Fin.ext ?_)
  match a with
  | ⟨0, _⟩ =>
    have h0 : (y 0).val = 0 := Nat.lt_one_iff.mp (y 0).isLt
    refine Eq.trans ?_ (word_row m t)
    show _ * 1 + 1 * (y 0).val = _
    rw [h0]; rfl
  | ⟨1, _⟩ => show 0 * 1024 + 1 * (y 1).val = (y 1).val; omega
  | ⟨2, _⟩ => show 0 * 1024 + 1 * (y 2).val = (y 2).val; omega

/-- A block of the down projection's bias is its expert's. -/
theorem bdB_apply (c : Dev nD) (t : Fin (cfgA m).N) (y : S1x1x1024.Idx) :
    bdB m c t y = (atStart m c main_v28 : S32x1x1024.Idx → F .f32) (ix3 (rowOf m t) (y 1) (y 2)) := by
  refine congrArg (atStart m c main_v28 : S32x1x1024.Idx → F .f32) (funext fun a => Fin.ext ?_)
  match a with
  | ⟨0, _⟩ =>
    have h0 : (y 0).val = 0 := Nat.lt_one_iff.mp (y 0).isLt
    refine Eq.trans ?_ (word_row m t)
    show _ * 1 + 1 * (y 0).val = _
    rw [h0]; rfl
  | ⟨1, _⟩ => show 0 * 1 + 1 * (y 1).val = (y 1).val; omega
  | ⟨2, _⟩ => show 0 * 1024 + 1 * (y 2).val = (y 2).val; omega

/-- The result's block number is the point's. -/
theorem index6_zero (t : Fin (cfgA m).N) : ((cfgA m).win (6 : Fin 7)).index t (0 : Fin 2) = t.val := point_word m t

theorem index6_one (t : Fin (cfgA m).N) : ((cfgA m).win (6 : Fin 7)).index t (1 : Fin 2) = 0 := rfl

/-- Every point writes its block of the result back. -/
theorem flush6 (t : Fin (cfgA m).N) : ((cfgA m).win (6 : Fin 7)).flush t = true := by
  have ht : t.val < 288 := t.isLt
  unfold Window.flush
  rw [show ((cfgA m).win (6 : Fin 7)).isOut = true from rfl, Bool.true_and, Bool.or_eq_true, decide_eq_true_eq, decide_eq_true_eq]
  by_cases h : t.val + 1 = 288
  · exact Or.inl h
  · refine Or.inr ⟨show t.val + 1 < 288 by omega, fun e => ?_⟩
    have e0 := congrFun e (0 : Fin 2)
    rw [index6_zero, index6_zero] at e0
    exact absurd e0 (Nat.succ_ne_self _)

/-- Where the result's block puts an element. -/
theorem emb6_zero (t : Fin (cfgA m).N) (y : S4096x128.Idx) :
    (((((cfgA m).win (6 : Fin 7)).blk t).view.emb y : S1179648x128.Idx) 0).val = t.val * 4096 + (y 0).val := by
  show (BitVec.ofNat 32 (at' m t 0).val).toNat * 4096 + 1 * (y 0).val = t.val * 4096 + (y 0).val
  rw [point_word, Nat.one_mul]

theorem emb6_one (t : Fin (cfgA m).N) (y : S4096x128.Idx) :
    (((((cfgA m).win (6 : Fin 7)).blk t).view.emb y : S1179648x128.Idx) 1).val = (y 1).val := by
  show 0 * 128 + 1 * (y 1).val = (y 1).val
  omega

/-- Every element of the result is in some point's block. -/
theorem cover6 (i : S1179648x128.Idx) :
    ∃ t : Fin (cfgA m).N, ((cfgA m).win (6 : Fin 7)).flush t = true ∧ i ∈ (((cfgA m).win (6 : Fin 7)).blk t).view.set := by
  have h0 : (i 0).val < 1179648 := (i 0).isLt
  have h1 : (i 1).val < 128 := (i 1).isLt
  let t : Fin (cfgA m).N := ⟨(i 0).val / 4096, show (i 0).val / 4096 < 288 by omega⟩
  let y : S4096x128.Idx := ix2 (⟨(i 0).val % 4096, by omega⟩ : Fin 4096) (⟨(i 1).val, h1⟩ : Fin 128)
  refine ⟨t, flush6 m t, Finset.mem_map.mpr ⟨y, Finset.mem_univ _, funext fun a => Fin.ext ?_⟩⟩
  match a with
  | ⟨0, _⟩ => exact (emb6_zero m t y).trans (show (i 0).val / 4096 * 4096 + (i 0).val % 4096 = (i 0).val by omega)
  | ⟨1, _⟩ => exact emb6_one m t y

end Cert.Proof.Experts
-- ==== Proof.Plain.lean ====
/- One token through one expert, written over the extended reals: what both programs are shown to compute. -/
module

public import Idealize.ShloMosaic.PureOps.Ideal.Laws
public import Idealize.ShloMosaic.Lib.IdealHost
public import Idealize.ShloMosaic.Lib.ValueIdx

@[expose] public section

noncomputable section

namespace Cert.Proof.Experts

open Idealize.ShloMosaic

/-- One column of a token's product with an expert's gate and up weights, its bias added. -/
def up (x : Fin 1024 → EReal) (w : Fin 1024 → Fin 2048 → EReal) (b : Fin 2048 → EReal) (j : Fin 2048) : EReal :=
  (∑ d, x d * w d j) + b j

/-- The columns of the gate and of the up projection. -/
def evenCol (f : Fin 1024) : Fin 2048 := ⟨2 * f.val, by omega⟩
def oddCol (f : Fin 1024) : Fin 2048 := ⟨2 * f.val + 1, by omega⟩

/-- The clamped SwiGLU: the gate cut above at 7, the up projection cut to [-7, 7], the sigmoid's slope 1.702. -/
def swiglu (g u : EReal) : EReal :=
  min g (Ideal.ofBits .f32 0x40E00000#32)
    * Ideal.logistic (Ideal.ofBits .f32 0x3FD9DB23#32 * min g (Ideal.ofBits .f32 0x40E00000#32))
    * (min (Ideal.ofBits .f32 0x40E00000#32) (max (Ideal.ofBits .f32 0xC0E00000#32) u) + Ideal.ofBits .f32 0x3F800000#32)

/-- The hidden layer of a token. -/
def hidden (x : Fin 1024 → EReal) (w : Fin 1024 → Fin 2048 → EReal) (b : Fin 2048 → EReal) (f : Fin 1024) : EReal :=
  swiglu (up x w b (evenCol f)) (up x w b (oddCol f))

/-- A token through an expert. -/
def through (x : Fin 1024 → EReal) (w : Fin 1024 → Fin 2048 → EReal) (b : Fin 2048 → EReal)
    (wd : Fin 1024 → Fin 1024 → EReal) (bd : Fin 1024 → EReal) (c : Fin 1024) : EReal :=
  (∑ f, hidden x w b f * wd f c) + bd c

end Cert.Proof.Experts
-- ==== Proof.Tile.lean ====
/- The kernel's tile of a block at the extended reals, element by element: each token through the block's expert. -/
module

public import proofs.«01_k».proof.Proof.Prep
public import proofs.«01_k».proof.Proof.Plain

@[expose] public section

set_option maxRecDepth 16384

noncomputable section

namespace Cert.Proof.Experts

open Cert.KernelIdeal Cert.KernelIdeal.Gen
open Idealize.ShloMosaic Idealize.ShloMosaic.ValueIdx

/-- The tokens of a block, one row each: eight rows of lanes joined. -/
theorem tokens_apply (x : S4096x128.Idx → EReal) (r : Fin 512) (d : Fin 1024) :
    k0_pay140 (F := Ideal) (lanes (F := Ideal) x 0) (lanes (F := Ideal) x 1) (lanes (F := Ideal) x 2) (lanes (F := Ideal) x 3) (lanes (F := Ideal) x 4) (lanes (F := Ideal) x 5) (lanes (F := Ideal) x 6) (lanes (F := Ideal) x 7) (ix2 r d)
      = x (ix2 (⟨8 * r.val + d.val / 128, by omega⟩ : Fin 4096) (⟨d.val % 128, by omega⟩ : Fin 128)) := by
  unfold k0_pay140
  show concatenate S512x1024 1
      (List.ofFn fun n : Fin 8 => (⟨S512x128, shapeCast S512x128 (lanes (F := Ideal) x n) shapeCasts_S512x128_S512x128⟩ : (s : Shape) × (s.Idx → EReal)))
      concatenates_S512x128_S512x128_S512x128_S512x128_S512x128_S512x128_S512x128_S512x128_S512x1024_d1 (ix2 r d) = _
  refine (concatenate_ofFn_apply (1 : Fin S512x1024.rank) (fun n : Fin 8 => shapeCast S512x128 (lanes (F := Ideal) x n) shapeCasts_S512x128_S512x128) _ rfl 128 rfl (ix2 r d)
    (⟨d.val / 128, by omega⟩ : Fin 8) rfl (ix2 r (⟨d.val % 128, by omega⟩ : Fin 128)) rfl
    (fun b hb => match b with | ⟨0, _⟩ => rfl | ⟨1, _⟩ => absurd rfl hb)).trans ?_
  rw [shapeCast_self]
  unfold lanes
  refine congrArg x (funext fun a => Fin.ext ?_)
  match a with
  | ⟨0, _⟩ => show d.val / 128 + 8 * r.val = 8 * r.val + d.val / 128; omega
  | ⟨1, _⟩ => rfl

/-- A product with the second operand transposed, at an element. -/
theorem matmulT_apply (a : S512x1024.Idx → EReal) (b : S1024x1024.Idx → EReal) (r : Fin 512) (f : Fin 1024) :
    matmul (F := Ideal) (φ₁ := .bf16) (φ₂ := .bf16) dot_S512x1024_S1024x1024_S512x1024_1_1_0_0_n_n none a b (constant S512x1024 .f32 0x00000000#32) (ix2 r f)
      = ∑ d : Fin 1024, a (ix2 r d) * b (ix2 f d) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  refine congrArg₂ (· * ·) (congrArg a (funext fun q => Fin.ext ?_)) (congrArg b (funext fun q => Fin.ext ?_))
  · match q with
    | ⟨0, _⟩ => rfl
    | ⟨1, _⟩ => exact (dot_S512x1024_S1024x1024_S512x1024_1_1_0_0_n_n.lhsIdx_val_of_single rfl _ _).trans hk
  · match q with
    | ⟨0, _⟩ => rfl
    | ⟨1, _⟩ => exact (dot_S512x1024_S1024x1024_S512x1024_1_1_0_0_n_n.rhsIdx_val_of_single rfl _ _).trans hk

/-- A plain product, at an element. -/
theorem matmul_plain_apply (a : S512x1024.Idx → EReal) (b : S1024x1024.Idx → EReal) (r : Fin 512) (f : Fin 1024) :
    matmul (F := Ideal) (φ₁ := .bf16) (φ₂ := .bf16) dot_S512x1024_S1024x1024_S512x1024_1_0_0_1_n_n none a b (constant S512x1024 .f32 0x00000000#32) (ix2 r f)
      = ∑ d : Fin 1024, a (ix2 r d) * b (ix2 d f) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  refine congrArg₂ (· * ·) (congrArg a (funext fun q => Fin.ext ?_)) (congrArg b (funext fun q => Fin.ext ?_))
  · match q with
    | ⟨0, _⟩ => rfl
    | ⟨1, _⟩ => exact (dot_S512x1024_S1024x1024_S512x1024_1_0_0_1_n_n.lhsIdx_val_of_single rfl _ _).trans hk
  · match q with
    | ⟨0, _⟩ => exact (dot_S512x1024_S1024x1024_S512x1024_1_0_0_1_n_n.rhsIdx_val_of_single rfl _ _).trans hk
    | ⟨1, _⟩ => rfl

/-- A bias, one row, under every token. -/
theorem bias_apply (b : S1x1x1024.Idx → EReal) (r : Fin 512) (f : Fin 1024) :
    broadcastTo S512x1024 (shapeCast S1x1024 b shapeCasts_S1x1x1024_S1x1024) broadcasts_S1x1024_S512x1024 (ix2 r f)
      = b (ix3 (0 : Fin 1) (0 : Fin 1) f) := by
  rw [broadcastTo_apply _ broadcasts_S1x1024_S512x1024 (ix2 r f) (ix2 (0 : Fin 1) f) (fun a => match a with
    | ⟨0, _⟩ => rfl
    | ⟨1, _⟩ => rfl)]
  exact shapeCast_apply b _ _ _ (by
    rw [Shape.rowMajor_val_two, Shape.rowMajor_val_three]
    show (0 * 1 + 0) * 1024 + f.val = 0 * 1024 + f.val
    omega)

/-- A block's tile at an element: the block's token `r` through the expert whose weights the blocks hold, at column `c`. -/
theorem tile_apply (x : S4096x128.Idx → EReal) (w : S1x1024x2048.Idx → EReal) (bg bu : S1x1x1024.Idx → EReal)
    (wd : S1x1024x1024.Idx → EReal) (bd : S1x1x1024.Idx → EReal) (X : Fin 1024 → EReal) (W : Fin 1024 → Fin 2048 → EReal)
    (B : Fin 2048 → EReal) (D : Fin 1024 → Fin 1024 → EReal) (E : Fin 1024 → EReal) (r : Fin 512)
    (hX : ∀ d : Fin 1024, x (ix2 (⟨8 * r.val + d.val / 128, by omega⟩ : Fin 4096) (⟨d.val % 128, by omega⟩ : Fin 128)) = X d)
    (hW : ∀ d j, w (ix3 (0 : Fin 1) d j) = W d j)
    (hg : ∀ f, bg (ix3 (0 : Fin 1) (0 : Fin 1) f) = B (evenCol f)) (hu : ∀ f, bu (ix3 (0 : Fin 1) (0 : Fin 1) f) = B (oddCol f))
    (hD : ∀ f c, wd (ix3 (0 : Fin 1) f c) = D f c) (hE : ∀ c, bd (ix3 (0 : Fin 1) (0 : Fin 1) c) = E c) (c : Fin 1024) :
    tile (F := Ideal) x (halfT (F := Ideal) 0 w) (halfT (F := Ideal) 1 w) bg bu wd bd (ix2 r c) = through X W B D E c := by
  have gate : ∀ f, k0_pay141 (F := Ideal) (lanes (F := Ideal) x 0) (lanes (F := Ideal) x 1) (lanes (F := Ideal) x 2) (lanes (F := Ideal) x 3) (lanes (F := Ideal) x 4) (lanes (F := Ideal) x 5) (lanes (F := Ideal) x 6) (lanes (F := Ideal) x 7) (halfT (F := Ideal) 0 w) bg (ix2 r f)
      = up X W B (evenCol f) := by
    intro f
    unfold k0_pay141 up
    refine congrArg₂ (· + ·) ((matmulT_apply _ _ r f).trans (Finset.sum_congr rfl fun d _ => ?_)) ((bias_apply bg r f).trans (hg f))
    rw [tokens_apply, hX]
    exact congrArg (X d * ·) (hW d (evenCol f))
  have proj : ∀ f, k0_pay142 (F := Ideal) (lanes (F := Ideal) x 0) (lanes (F := Ideal) x 1) (lanes (F := Ideal) x 2) (lanes (F := Ideal) x 3) (lanes (F := Ideal) x 4) (lanes (F := Ideal) x 5) (lanes (F := Ideal) x 6) (lanes (F := Ideal) x 7) (halfT (F := Ideal) 1 w) bu (ix2 r f)
      = up X W B (oddCol f) := by
    intro f
    unfold k0_pay142 up
    refine congrArg₂ (· + ·) ((matmulT_apply _ _ r f).trans (Finset.sum_congr rfl fun d _ => ?_)) ((bias_apply bu r f).trans (hu f))
    rw [tokens_apply, hX]
    exact congrArg (X d * ·) (hW d (oddCol f))
  unfold tile
  generalize k0_pay141 (F := Ideal) (lanes (F := Ideal) x 0) (lanes (F := Ideal) x 1) (lanes (F := Ideal) x 2) (lanes (F := Ideal) x 3) (lanes (F := Ideal) x 4) (lanes (F := Ideal) x 5) (lanes (F := Ideal) x 6) (lanes (F := Ideal) x 7) (halfT (F := Ideal) 0 w) bg = g at gate
  generalize k0_pay142 (F := Ideal) (lanes (F := Ideal) x 0) (lanes (F := Ideal) x 1) (lanes (F := Ideal) x 2) (lanes (F := Ideal) x 3) (lanes (F := Ideal) x 4) (lanes (F := Ideal) x 5) (lanes (F := Ideal) x 6) (lanes (F := Ideal) x 7) (halfT (F := Ideal) 1 w) bu = u at proj
  unfold k0_pay144 through
  refine congrArg₂ (· + ·) ((matmul_plain_apply _ _ r c).trans (Finset.sum_congr rfl fun f _ => congrArg₂ (· * ·) ?_ ?_)) ((bias_apply bd r c).trans (hE c))
  · unfold hidden
    rw [← gate f, ← proj f]
    rfl
  · rw [shapeCast_apply wd _ _ (ix3 (0 : Fin 1) f c) (by
      rw [Shape.rowMajor_val_two, Shape.rowMajor_val_three]
      show (0 * 1024 + f.val) * 1024 + c.val = f.val * 1024 + c.val
      omega)]
    exact hD f c

end Cert.Proof.Experts
-- ==== Proof.Reference.lean ====
/- The reference read at an index: each block's expert and the count of used blocks are the kernel's tables, the gathered weights are
   the expert's, and a used block's rows are its tokens through its expert. -/
module

public import proofs.«01_k».proof.Proof.Gen.ReferenceIdeal.Read
public import proofs.«01_k».proof.Proof.Tables
public import proofs.«01_k».proof.Proof.Plain

@[expose] public section

set_option maxRecDepth 16384

noncomputable section

namespace Cert.Proof.Experts

open Cert.ReferenceIdeal Cert.ReferenceIdeal.Gen Cert.ReferenceIdeal.Read
open Idealize.ShloMosaic Idealize.ShloMosaic.ValueIdx Idealize.ShloMosaic.Tactic

variable (x0 : S32.Idx → BitVec 32) (x1 : S147456x1024.Idx → EReal) (x2 : S32x1024x2048.Idx → EReal)
  (x3 : S32x2048.Idx → EReal) (x4 : S32x1024x1024.Idx → EReal) (x5 : S32x1024.Idx → EReal)

/-- Where the experts' rows end, in both programs. -/
theorem ref_ends : val_main_v7 (F := Ideal) x0 = ends x0 := by sl_kernel_rfl

/-- A block's first row: the reference multiplies a column of block numbers, the kernel's host code the numbers before they are one. -/
theorem ref_first (i : S288x32.Idx) : val_main_v14 (F := Ideal) i
    = broadcastInDim S288x32 ![0, 1] bcast_S288x1_S288x32_0_1 (broadcastInDim S288x1 ![0] bcast_S288_S288x1_0
      (muli (iotaInDim S288 32 0) (broadcastInDim S288 ![] bcast_S_S288 (constantI S_ 32 512#32)))) i := by
  rw [val_main_v14_apply, val_main_v12_apply, val_main_v11_apply, val_main_v10_apply, val_main_v8_apply, val_main_c_3_apply,
    broadcastInDim_apply _ bcast_S288x1_S288x32_0_1 _ i (idx_main_v14 i) (fun a => match a with
      | ⟨0, _⟩ => by show (i 0).val = if (288 : Nat) = 1 then 0 else (i 0).val; rw [if_neg (by decide)]
      | ⟨1, _⟩ => by show 0 = if (1 : Nat) = 1 then 0 else (i 1).val; rw [if_pos rfl]),
    broadcastInDim_apply _ bcast_S288_S288x1_0 _ (idx_main_v14 i) (idx_main_v10 (idx_main_v14 i)) (fun a => match a with
      | ⟨0, _⟩ => by show (i 0).val = if (288 : Nat) = 1 then 0 else (i 0).val; rw [if_neg (by decide)])]
  rfl

/-- Which experts' rows end before a block, in both programs. -/
theorem ref_past : val_main_v15 (F := Ideal) x0 = past x0 := by
  funext i
  rw [val_main_v15_apply, ref_first]
  unfold val_main_v13 val_main_v9
  rw [ref_ends]
  rfl

/-- Each block's expert, in both programs. -/
theorem ref_expert : val_main_v19 (F := Ideal) x0 = expert (past x0) := by
  unfold val_main_v19 val_main_v17 val_main_v16
  rw [ref_past]
  rfl

/-- A block's expert as a row of the weights. -/
def row (b : Fin 288) : Fin 32 := ⟨(expert (past x0) (ix1 b)).toNat, Nat.lt_succ_of_le (expert_le _ _)⟩

/-- A word at most 31 is not negative, so it is its own start of a slice. -/
theorem start_word (w : BitVec 32) (h : w.toNat ≤ 31) :
    min (Scalar.select (IntOp.cmpi .slt w 0#32) (IntOp.addi w 32#32) w).toInt.toNat 31 = w.toNat := by
  obtain ⟨k, hk, rfl⟩ : ∃ k : Fin 32, True ∧ w = BitVec.ofNat 32 k.val :=
    ⟨⟨w.toNat, Nat.lt_succ_of_le h⟩, trivial, by simp⟩
  revert k
  decide +kernel

/-- The count of used blocks, in both programs. -/
theorem ref_used (i : S_.Idx) : val_main_v76 (F := Ideal) x0 i = used x0 (ix1 (0 : Fin 1)) := by
  have e : val_main_v75 (F := Ideal) x0 i = extractStridedSlice S1 ![31] (ends x0) slices_S32_S1_31 (ix1 (0 : Fin 1)) := by
    unfold val_main_v75
    refine (shapeCast_apply (val_main_v74 (F := Ideal) x0) shapeCasts_S1_S_ i (ix1 (0 : Fin 1)) ?_).trans ?_
    · have h1 := (Shape.rowMajor S1 (ix1 (0 : Fin 1))).isLt
      have h2 := (Shape.rowMajor S_ i).isLt
      exact (Nat.lt_one_iff.mp h1).trans (Nat.lt_one_iff.mp h2).symm
    · unfold val_main_v74
      rw [ref_ends]
  have z : val_main_v75 (F := Ideal) x0 = fun _ => extractStridedSlice S1 ![31] (ends x0) slices_S32_S1_31 (ix1 (0 : Fin 1)) :=
    funext fun j => (congrArg (val_main_v75 (F := Ideal) x0) (Subsingleton.elim j i)).trans e
  unfold val_main_v76 val_main_call3_v7 val_main_call3_v8 val_main_call3_v6 val_main_call3_v5 val_main_call3_v4 val_main_call3_v3
    val_main_call3_v2 val_main_call3_v1
  rw [z]
  unfold used floorDiv
  generalize extractStridedSlice S1 ![31] (ends x0) slices_S32_S1_31 = y
  sl_kernel_rfl

/-- The dimensions of a gather of whole planes. -/
abbrev planesDims (p q : Nat) (wf : GatherDims.WF ⟨3, ![32, p, q]⟩ S288x1 ⟨3, ![288, p, q]⟩ [1, 2] [0] [] [0] [] 1 ![1, p, q]) : GatherDims ⟨3, ![32, p, q]⟩ S288x1 ⟨3, ![288, p, q]⟩ :=
  ⟨[1, 2], [0], [], [], [0], 1, ![1, p, q], wf⟩

/-- A gather of whole planes along axis 0, at an element: the plane its start index names, held inside. -/
theorem planes_gather (p q : Nat) (wf : GatherDims.WF ⟨3, ![32, p, q]⟩ S288x1 ⟨3, ![288, p, q]⟩ [1, 2] [0] [] [0] [] 1 ![1, p, q]) (x : (⟨3, ![32, p, q]⟩ : Shape).Idx → EReal) (idx : S288x1.Idx → BitVec 32) (t : Fin 288) (i : Fin p) (j : Fin q) :
    Host.gather (planesDims p q wf) x idx (ix3 t i j)
      = x (ix3 (⟨min (idx (ix2 t (0 : Fin 1))).toInt.toNat 31, by omega⟩ : Fin 32) i j) := by
  unfold Host.gather
  refine congrArg x (funext fun a => Fin.ext ?_)
  unfold GatherDims.operandIdx
  match a with
  | ⟨0, _⟩ =>
    show (planesDims p q wf).start (ix3 t i j) idx (0 : Fin 3) + (planesDims p q wf).batchCoord (ix3 t i j) (0 : Fin 3) + (planesDims p q wf).offCoord (ix3 t i j) (0 : Fin 3) = _
    rw [GatherDims.batchCoord_eq_zero _ _ _ List.not_mem_nil, GatherDims.offCoord_eq_zero _ _ _ (show (0 : Fin 3) ∉ ([1, 2] : List (Fin 3)) by decide)]
    unfold GatherDims.start
    rw [dif_pos (show (0 : Fin 3) ∈ ([0] : List (Fin 3)) by decide)]
    refine congrArg (fun z => min (idx z).toInt.toNat 31) (funext fun b => Fin.ext ?_)
    match b with
    | ⟨0, _⟩ => rfl
    | ⟨1, _⟩ => rfl
  | ⟨1, _⟩ =>
    show (planesDims p q wf).start (ix3 t i j) idx (1 : Fin 3) + (planesDims p q wf).batchCoord (ix3 t i j) (1 : Fin 3) + (planesDims p q wf).offCoord (ix3 t i j) (1 : Fin 3) = _
    rw [GatherDims.batchCoord_eq_zero _ _ _ List.not_mem_nil]
    unfold GatherDims.start GatherDims.offCoord
    rw [dif_neg (show (1 : Fin 3) ∉ ([0] : List (Fin 3)) by decide), dif_pos (show (1 : Fin 3) ∈ (planesDims p q wf).sKept from (by decide : (1 : Fin 3) ∈ ([1, 2] : List (Fin 3))))]
    show 0 + 0 + i.val = i.val
    omega
  | ⟨2, _⟩ =>
    show (planesDims p q wf).start (ix3 t i j) idx (2 : Fin 3) + (planesDims p q wf).batchCoord (ix3 t i j) (2 : Fin 3) + (planesDims p q wf).offCoord (ix3 t i j) (2 : Fin 3) = _
    rw [GatherDims.batchCoord_eq_zero _ _ _ List.not_mem_nil]
    unfold GatherDims.start GatherDims.offCoord
    rw [dif_neg (show (2 : Fin 3) ∉ ([0] : List (Fin 3)) by decide), dif_pos (show (2 : Fin 3) ∈ (planesDims p q wf).sKept from (by decide : (2 : Fin 3) ∈ ([1, 2] : List (Fin 3))))]
    show 0 + 0 + j.val = j.val
    omega

/-- The dimensions of a gather of whole rows. -/
abbrev rowsDims (p : Nat) (wf : GatherDims.WF ⟨2, ![32, p]⟩ S288x1 ⟨2, ![288, p]⟩ [1] [0] [] [0] [] 1 ![1, p]) : GatherDims ⟨2, ![32, p]⟩ S288x1 ⟨2, ![288, p]⟩ :=
  ⟨[1], [0], [], [], [0], 1, ![1, p], wf⟩

/-- A gather of whole rows along axis 0, at an element. -/
theorem rows_gather (p : Nat) (wf : GatherDims.WF ⟨2, ![32, p]⟩ S288x1 ⟨2, ![288, p]⟩ [1] [0] [] [0] [] 1 ![1, p]) (x : (⟨2, ![32, p]⟩ : Shape).Idx → EReal) (idx : S288x1.Idx → BitVec 32) (t : Fin 288) (i : Fin p) :
    Host.gather (rowsDims p wf) x idx (ix2 t i)
      = x (ix2 (⟨min (idx (ix2 t (0 : Fin 1))).toInt.toNat 31, by omega⟩ : Fin 32) i) := by
  unfold Host.gather
  refine congrArg x (funext fun a => Fin.ext ?_)
  unfold GatherDims.operandIdx
  match a with
  | ⟨0, _⟩ =>
    show (rowsDims p wf).start (ix2 t i) idx (0 : Fin 2) + (rowsDims p wf).batchCoord (ix2 t i) (0 : Fin 2) + (rowsDims p wf).offCoord (ix2 t i) (0 : Fin 2) = _
    rw [GatherDims.batchCoord_eq_zero _ _ _ List.not_mem_nil, GatherDims.offCoord_eq_zero _ _ _ (show (0 : Fin 2) ∉ ([1] : List (Fin 2)) by decide)]
    unfold GatherDims.start
    rw [dif_pos (show (0 : Fin 2) ∈ ([0] : List (Fin 2)) by decide)]
    refine congrArg (fun z => min (idx z).toInt.toNat 31) (funext fun b => Fin.ext ?_)
    match b with
    | ⟨0, _⟩ => rfl
    | ⟨1, _⟩ => rfl
  | ⟨1, _⟩ =>
    show (rowsDims p wf).start (ix2 t i) idx (1 : Fin 2) + (rowsDims p wf).batchCoord (ix2 t i) (1 : Fin 2) + (rowsDims p wf).offCoord (ix2 t i) (1 : Fin 2) = _
    rw [GatherDims.batchCoord_eq_zero _ _ _ List.not_mem_nil]
    unfold GatherDims.start GatherDims.offCoord
    rw [dif_neg (show (1 : Fin 2) ∉ ([0] : List (Fin 2)) by decide), dif_pos (show (1 : Fin 2) ∈ (rowsDims p wf).sKept from (by decide : (1 : Fin 2) ∈ ([1] : List (Fin 2))))]
    show 0 + 0 + i.val = i.val
    omega

/-- The start index of a block's slice of the weights: its expert. -/
theorem start_row (t : Fin 288) (w : BitVec 32) (h : w = Scalar.select (IntOp.cmpi .slt (val_main_v19 (F := Ideal) x0 (ix1 t)) 0#32)
    (IntOp.addi (val_main_v19 (F := Ideal) x0 (ix1 t)) 32#32) (val_main_v19 (F := Ideal) x0 (ix1 t))) :
    (⟨min w.toInt.toNat 31, by omega⟩ : Fin 32) = row x0 t := by
  rw [ref_expert] at h
  subst h
  exact Fin.ext (start_word _ (expert_le _ _))

/-- The four columns of start indices, at a block. -/
theorem word_v26 (t : Fin 288) : val_main_v26 (F := Ideal) x0 (ix2 t (0 : Fin 1))
    = Scalar.select (IntOp.cmpi .slt (val_main_v19 (F := Ideal) x0 (ix1 t)) 0#32)
      (IntOp.addi (val_main_v19 (F := Ideal) x0 (ix1 t)) 32#32) (val_main_v19 (F := Ideal) x0 (ix1 t)) := by
  have e : idx_main_v26 (ix2 t (0 : Fin 1)) = ix1 t := funext fun a => match a with | ⟨0, _⟩ => rfl
  rw [val_main_v26_apply, e, val_main_v25_apply, val_main_v22_apply, val_main_v21_apply, val_main_c_6_apply,
    val_main_v24_apply, val_main_v23_apply, val_main_c_7_apply]

theorem word_v34 (t : Fin 288) : val_main_v34 (F := Ideal) x0 (ix2 t (0 : Fin 1))
    = Scalar.select (IntOp.cmpi .slt (val_main_v19 (F := Ideal) x0 (ix1 t)) 0#32)
      (IntOp.addi (val_main_v19 (F := Ideal) x0 (ix1 t)) 32#32) (val_main_v19 (F := Ideal) x0 (ix1 t)) := by
  have e : idx_main_v34 (ix2 t (0 : Fin 1)) = ix1 t := funext fun a => match a with | ⟨0, _⟩ => rfl
  rw [val_main_v34_apply, e, val_main_v33_apply, val_main_v30_apply, val_main_v29_apply, val_main_c_8_apply,
    val_main_v32_apply, val_main_v31_apply, val_main_c_9_apply]

theorem word_v61 (t : Fin 288) : val_main_v61 (F := Ideal) x0 (ix2 t (0 : Fin 1))
    = Scalar.select (IntOp.cmpi .slt (val_main_v19 (F := Ideal) x0 (ix1 t)) 0#32)
      (IntOp.addi (val_main_v19 (F := Ideal) x0 (ix1 t)) 32#32) (val_main_v19 (F := Ideal) x0 (ix1 t)) := by
  have e : idx_main_v61 (ix2 t (0 : Fin 1)) = ix1 t := funext fun a => match a with | ⟨0, _⟩ => rfl
  rw [val_main_v61_apply, e, val_main_v60_apply, val_main_v57_apply, val_main_v56_apply, val_main_c_16_apply,
    val_main_v59_apply, val_main_v58_apply, val_main_c_17_apply]

theorem word_v69 (t : Fin 288) : val_main_v69 (F := Ideal) x0 (ix2 t (0 : Fin 1))
    = Scalar.select (IntOp.cmpi .slt (val_main_v19 (F := Ideal) x0 (ix1 t)) 0#32)
      (IntOp.addi (val_main_v19 (F := Ideal) x0 (ix1 t)) 32#32) (val_main_v19 (F := Ideal) x0 (ix1 t)) := by
  have e : idx_main_v69 (ix2 t (0 : Fin 1)) = ix1 t := funext fun a => match a with | ⟨0, _⟩ => rfl
  rw [val_main_v69_apply, e, val_main_v68_apply, val_main_v65_apply, val_main_v64_apply, val_main_c_18_apply,
    val_main_v67_apply, val_main_v66_apply, val_main_c_19_apply]

/-- The four gathers, at an element. -/
theorem ref_wUp (t : Fin 288) (d : Fin 1024) (j : Fin 2048) :
    val_main_v27 (F := Ideal) x0 x2 (ix3 t d j) = x2 (ix3 (row x0 t) d j) := by
  refine (planes_gather 1024 2048 _ x2 (val_main_v26 (F := Ideal) x0) t d j).trans ?_
  rw [start_row x0 t _ (word_v26 x0 t)]

theorem ref_bUp (t : Fin 288) (j : Fin 2048) : val_main_v35 (F := Ideal) x0 x3 (ix2 t j) = x3 (ix2 (row x0 t) j) := by
  refine (rows_gather 2048 _ x3 (val_main_v34 (F := Ideal) x0) t j).trans ?_
  rw [start_row x0 t _ (word_v34 x0 t)]

theorem ref_wDown (t : Fin 288) (f c : Fin 1024) :
    val_main_v62 (F := Ideal) x0 x4 (ix3 t f c) = x4 (ix3 (row x0 t) f c) := by
  refine (planes_gather 1024 1024 _ x4 (val_main_v61 (F := Ideal) x0) t f c).trans ?_
  rw [start_row x0 t _ (word_v61 x0 t)]

theorem ref_bDown (t : Fin 288) (c : Fin 1024) : val_main_v70 (F := Ideal) x0 x5 (ix2 t c) = x5 (ix2 (row x0 t) c) := by
  refine (rows_gather 1024 _ x5 (val_main_v69 (F := Ideal) x0) t c).trans ?_
  rw [start_row x0 t _ (word_v69 x0 t)]

/-- A row of the token blocks. -/
def token (t : Fin 288) (r : Fin 512) : Fin 1024 → EReal :=
  fun d => x1 (ix2 (⟨512 * t.val + r.val, by omega⟩ : Fin 147456) d)

/-- The gate and up projections, at an element. -/
theorem ref_up (t : Fin 288) (r : Fin 512) (j : Fin 2048) : val_main_v38 (F := Ideal) x0 x1 x2 x3 (ix3 t r j)
    = up (token x1 t r) (fun d j => x2 (ix3 (row x0 t) d j)) (fun j => x3 (ix2 (row x0 t) j)) j := by
  rw [val_main_v38_apply, val_main_v37_apply, val_main_v36_apply, val_main_v28_apply]
  unfold up
  refine congrArg₂ (· + ·) (Finset.sum_congr rfl fun d _ => congrArg₂ (· * ·) ?_ ?_) ?_
  · rw [val_main_v20_apply]
    unfold token
    refine congrArg x1 (funext fun a => Fin.ext ?_)
    match a with
    | ⟨0, _⟩ => show ((t.val * 512 + r.val) * 1024 + d.val) / 1024 = 512 * t.val + r.val; omega
    | ⟨1, _⟩ => show ((t.val * 512 + r.val) * 1024 + d.val) % 1024 = d.val; omega
  · refine (congrArg (val_main_v27 (F := Ideal) x0 x2) (funext fun a => ?_)).trans (ref_wUp x0 x2 t d j)
    match a with
    | ⟨0, _⟩ => rfl
    | ⟨1, _⟩ => rfl
    | ⟨2, _⟩ => rfl
  · refine (congrArg (val_main_v35 (F := Ideal) x0 x3) (funext fun a => ?_)).trans (ref_bUp x0 x3 t j)
    match a with
    | ⟨0, _⟩ => rfl
    | ⟨1, _⟩ => rfl

/-- The gate: every second column from the first. -/
theorem ref_gate (t : Fin 288) (r : Fin 512) (f : Fin 1024) : val_main_v39 (F := Ideal) x0 x1 x2 x3 (ix3 t r f)
    = val_main_v38 (F := Ideal) x0 x1 x2 x3 (ix3 t r (evenCol f)) := by
  unfold val_main_v39
  refine congrArg (val_main_v38 (F := Ideal) x0 x1 x2 x3) (funext fun a => Fin.ext ?_)
  match a with
  | ⟨0, _⟩ => show 0 + 1 * t.val = t.val; omega
  | ⟨1, _⟩ => show 0 + 1 * r.val = r.val; omega
  | ⟨2, _⟩ => show 0 + 2 * f.val = 2 * f.val; omega

/-- The up projection: every second column from the second. -/
theorem ref_proj (t : Fin 288) (r : Fin 512) (f : Fin 1024) : val_main_v42 (F := Ideal) x0 x1 x2 x3 (ix3 t r f)
    = val_main_v38 (F := Ideal) x0 x1 x2 x3 (ix3 t r (oddCol f)) := by
  unfold val_main_v42
  refine congrArg (val_main_v38 (F := Ideal) x0 x1 x2 x3) (funext fun a => Fin.ext ?_)
  match a with
  | ⟨0, _⟩ => show 0 + 1 * t.val = t.val; omega
  | ⟨1, _⟩ => show 0 + 1 * r.val = r.val; omega
  | ⟨2, _⟩ => show 1 + 2 * f.val = 2 * f.val + 1; omega

/-- The hidden layer, at an element: the reference's sigmoid is the quotient the logistic stands for. -/
theorem ref_hidden (t : Fin 288) (r : Fin 512) (f : Fin 1024) : val_main_v55 (F := Ideal) x0 x1 x2 x3 (ix3 t r f)
    = hidden (token x1 t r) (fun d j => x2 (ix3 (row x0 t) d j)) (fun j => x3 (ix2 (row x0 t) j)) f := by
  unfold hidden
  rw [← ref_up, ← ref_up, ← ref_gate, ← ref_proj,
    val_main_v55_apply, val_main_v52_apply, val_main_v51_apply, val_main_v50_apply, val_main_v49_apply, val_main_v48_apply,
    val_main_v47_apply, val_main_v46_apply, val_main_v45_apply, val_main_v44_apply, val_main_v41_apply, val_main_v40_apply,
    val_main_v54_apply, val_main_v53_apply, val_main_v43_apply, val_main_call2_v4_apply, val_main_call2_v3_apply,
    val_main_call2_v2_apply, val_main_call2_v1_apply, val_main_call2_v0_apply, val_main_cst_apply, val_main_cst_10_apply,
    val_main_cst_11_apply, val_main_cst_12_apply, val_main_cst_13_apply, val_main_cst_14_apply, val_main_cst_15_apply]
  generalize val_main_v39 (F := Ideal) x0 x1 x2 x3 (ix3 t r f) = g
  generalize val_main_v42 (F := Ideal) x0 x1 x2 x3 (ix3 t r f) = u
  unfold swiglu Ideal.logistic
  conv_rhs => rw [← Ideal.ofBits_one_f32]
  rfl

/-- A token through its block's expert, at an element. -/
theorem ref_through (t : Fin 288) (r : Fin 512) (c : Fin 1024) : val_main_v73 (F := Ideal) x0 x1 x2 x3 x4 x5 (ix3 t r c)
    = through (token x1 t r) (fun d j => x2 (ix3 (row x0 t) d j)) (fun j => x3 (ix2 (row x0 t) j))
      (fun f c => x4 (ix3 (row x0 t) f c)) (fun c => x5 (ix2 (row x0 t) c)) c := by
  rw [val_main_v73_apply, val_main_v72_apply, val_main_v71_apply, val_main_v63_apply]
  unfold through
  refine congrArg₂ (· + ·) (Finset.sum_congr rfl fun f _ => congrArg₂ (· * ·) ?_ ?_) ?_
  · refine (congrArg (val_main_v55 (F := Ideal) x0 x1 x2 x3) (funext fun a => ?_)).trans (ref_hidden x0 x1 x2 x3 t r f)
    match a with
    | ⟨0, _⟩ => rfl
    | ⟨1, _⟩ => rfl
    | ⟨2, _⟩ => rfl
  · refine (congrArg (val_main_v62 (F := Ideal) x0 x4) (funext fun a => ?_)).trans (ref_wDown x0 x4 t f c)
    match a with
    | ⟨0, _⟩ => rfl
    | ⟨1, _⟩ => rfl
    | ⟨2, _⟩ => rfl
  · refine (congrArg (val_main_v70 (F := Ideal) x0 x5) (funext fun a => ?_)).trans (ref_bDown x0 x5 t c)
    match a with
    | ⟨0, _⟩ => rfl
    | ⟨1, _⟩ => rfl

/-- The experts' result by block, token and column: zero on a block that no expert's rows reach. -/
def answer (t : Fin 288) (r : Fin 512) (c : Fin 1024) : EReal :=
  if (BitVec.ofNat 32 t.val).slt (used x0 (ix1 (0 : Fin 1))) = true then
    through (token x1 t r) (fun d j => x2 (ix3 (row x0 t) d j)) (fun j => x3 (ix2 (row x0 t) j))
      (fun f c => x4 (ix3 (row x0 t) f c)) (fun c => x5 (ix2 (row x0 t) c)) c
  else Ideal.ofBits .f32 0x00000000#32

/-- The reference before its last reshape is the answer. -/
theorem ref_block (t : Fin 288) (r : Fin 512) (c : Fin 1024) :
    val_main_v80 (F := Ideal) x0 x1 x2 x3 x4 x5 (ix3 t r c) = answer x0 x1 x2 x3 x4 x5 t r c := by
  rw [val_main_v80_apply, val_main_call4_v1_apply, val_main_v79_apply, val_main_v78_apply, val_main_v77_apply, ref_used,
    val_main_v8_apply, ref_through, val_main_call4_v2_apply, val_main_call4_v0_apply, val_main_cst_21_apply]
  unfold answer
  generalize through (token x1 t r) (fun d j => x2 (ix3 (row x0 t) d j)) (fun j => x3 (ix2 (row x0 t) j))
      (fun f c => x4 (ix3 (row x0 t) f c)) (fun c => x5 (ix2 (row x0 t) c)) c = y
  generalize used x0 (ix1 (0 : Fin 1)) = n
  show Scalar.select (IntOp.cmpi .slt (BitVec.ofNat 32 t.val) n) y (Ideal.ofBits .f32 0x00000000#32) = _
  unfold Scalar.select IntOp.cmpi
  show (if BitVec.ofBool ((BitVec.ofNat 32 t.val).slt n) = 1#1 then _ else _) = _
  cases (BitVec.ofNat 32 t.val).slt n <;> rfl

/-- The reference's result at an element. -/
theorem ref_apply (i : S1179648x128.Idx) (t : Fin 288) (r : Fin 512) (c : Fin 1024)
    (h : (i 0).val * 128 + (i 1).val = (t.val * 512 + r.val) * 1024 + c.val) :
    val_main_v81 (F := Ideal) x0 x1 x2 x3 x4 x5 i = answer x0 x1 x2 x3 x4 x5 t r c := by
  rw [val_main_v81_apply, ← ref_block]
  refine congrArg (val_main_v80 (F := Ideal) x0 x1 x2 x3 x4 x5) (funext fun a => Fin.ext ?_)
  match a with
  | ⟨0, _⟩ => show ((i 0).val * 128 + (i 1).val) / 524288 = t.val; omega
  | ⟨1, _⟩ => show ((i 0).val * 128 + (i 1).val) / 1024 % 512 = r.val; omega
  | ⟨2, _⟩ => show ((i 0).val * 128 + (i 1).val) % 1024 = c.val; omega

end Cert.Proof.Experts
-- ==== Proof.Value.lean ====
/- The result's value at the extended reals: every element is its token through its block's expert, as the reference's is, so the two
   programs agree. -/
module

public import proofs.«01_k».proof.Defs
public import proofs.«01_k».proof.Proof.Run
public import proofs.«01_k».proof.Proof.Blocks
public import proofs.«01_k».proof.Proof.Tile
public import proofs.«01_k».proof.Proof.Reference
public import proofs.«01_k».proof.Proof.Gen.ReferenceIdeal.Run

@[expose] public section

set_option maxRecDepth 16384

noncomputable section

namespace Cert.Proof.Experts

open Cert.KernelIdeal Cert.KernelIdeal.Gen
open Idealize.ShloMosaic Idealize.ShloMosaic.ValueIdx
open Idealize.ShloMosaic.TcCoe Idealize.ShloMosaic.Tactic
open Idealize.SL.Sem
open Idealize.ShloMosaic.Pipeline (Dat Cfg Window)

variable (m : (ℓ : Loc nD τ sig) → Buf (Elt Ideal) ℓ) (c : Dev nD)

/-- The arguments: token rows, gate and up weights and biases, down weights and biases. -/
abbrev arg1 : S147456x1024.Idx → EReal := m (c, Proc.devRef .tc main_arg1)
abbrev arg2 : S32x1024x2048.Idx → EReal := m (c, Proc.devRef .tc main_arg2)
abbrev arg3 : S32x2048.Idx → EReal := m (c, Proc.devRef .tc main_arg3)
abbrev arg4 : S32x1024x1024.Idx → EReal := m (c, Proc.devRef .tc main_arg4)
abbrev arg5 : S32x1024.Idx → EReal := m (c, Proc.devRef .tc main_arg5)

/-- The answer for this memory. -/
abbrev answerOf (t : Fin 288) (r : Fin 512) (j : Fin 1024) : EReal :=
  answer (counts m c) (arg1 m c) (arg2 m c) (arg3 m c) (arg4 m c) (arg5 m c) t r j

/-- Two coordinates swept at once: a bias of an expert under a broadcast of its middle axis. -/
theorem spread_apply (x : S32x1024.Idx → EReal) (e : Fin 32) (z : Fin 1) (f : Fin 1024) :
    broadcastInDim S32x1x1024 ![0, 2] bcast_S32x1024_S32x1x1024_0_2 x (ix3 e z f) = x (ix2 e f) :=
  broadcastInDim_apply _ bcast_S32x1024_S32x1x1024_0_2 x (ix3 e z f) (ix2 e f) (fun a => match a with
    | ⟨0, _⟩ => by show e.val = if (32 : Nat) = 1 then 0 else e.val; rw [if_neg (by decide)]
    | ⟨1, _⟩ => by show f.val = if (1024 : Nat) = 1 then 0 else f.val; rw [if_neg (by decide)])

/-- The gate's bias where the launch finds it. -/
theorem gate_bias (e : Fin 32) (z : Fin 1) (f : Fin 1024) :
    (atStart m c main_v23 : S32x1x1024.Idx → EReal) (ix3 e z f) = arg3 m c (ix2 e (evenCol f)) := by
  rw [start_v23]
  refine (spread_apply _ e z f).trans (congrArg (arg3 m c) (funext fun a => Fin.ext ?_))
  match a with
  | ⟨0, _⟩ => show 0 + 1 * e.val = e.val; omega
  | ⟨1, _⟩ => show 0 + 2 * f.val = 2 * f.val; omega

/-- The up projection's bias where the launch finds it. -/
theorem up_bias (e : Fin 32) (z : Fin 1) (f : Fin 1024) :
    (atStart m c main_v25 : S32x1x1024.Idx → EReal) (ix3 e z f) = arg3 m c (ix2 e (oddCol f)) := by
  rw [start_v25]
  refine (spread_apply _ e z f).trans (congrArg (arg3 m c) (funext fun a => Fin.ext ?_))
  match a with
  | ⟨0, _⟩ => show 0 + 1 * e.val = e.val; omega
  | ⟨1, _⟩ => show 1 + 2 * f.val = 2 * f.val + 1; omega

/-- The down projection's bias where the launch finds it. -/
theorem down_bias (e : Fin 32) (z : Fin 1) (f : Fin 1024) :
    (atStart m c main_v28 : S32x1x1024.Idx → EReal) (ix3 e z f) = arg5 m c (ix2 e f) := by
  rw [start_v28]
  exact spread_apply _ e z f

/-- The down weights where the launch finds them: rounding is the identity here. -/
theorem down_weights (e : Fin 32) (f j : Fin 1024) :
    (atStart m c main_v27 : S32x1024x1024.Idx → EReal) (ix3 e f j) = arg4 m c (ix3 e f j) := by
  rw [start_v27]
  rfl

/-- The tokens where the launch finds them: eight rows of lanes hold one token. -/
theorem token_lanes (R : Fin 1179648) (l : Fin 128) (p : Fin 147456) (d : Fin 1024) (h : R.val * 128 + l.val = p.val * 1024 + d.val) :
    (atStart m c main_v26 : S1179648x128.Idx → EReal) (ix2 R l) = arg1 m c (ix2 p d) := by
  rw [start_v26]
  exact shapeCast_apply (arg1 m c) shapeCasts_S147456x1024_S1179648x128 (ix2 R l) (ix2 p d) (by
    rw [Shape.rowMajor_val_two, Shape.rowMajor_val_two]
    exact h.symm)

/-- A point's block as a block of the plain description. -/
def blockOf (t : Fin (cfgA m).N) : Fin 288 := ⟨t.val, t.isLt⟩

theorem blockOf_val (t : Fin (cfgA m).N) : (blockOf m t).val = t.val := rfl

/-- The expert a point's windows name is its block's. -/
theorem rowOf_eq (t : Fin (cfgA m).N) : rowOf m t = row (counts m c) (blockOf m t) := by
  obtain rfl : c = 0 := Subsingleton.elim _ _
  refine Fin.ext (congrArg (fun b : Fin 288 => (T1 m (ix1 b)).toNat) (Fin.ext ?_))
  exact coords_val m t

/-- A point's test of a used block is the plain description's. -/
theorem used_eq (t : Fin (cfgA m).N) :
    Used m t ↔ (BitVec.ofNat 32 (blockOf m t).val).slt (used (counts m c) (ix1 (0 : Fin 1))) = true := by
  obtain rfl : c = 0 := Subsingleton.elim _ _
  unfold Used
  rw [used_iff, wN_eq, coords_val]
  rfl

/-- The tile of a used block, at an element. -/
theorem block_tile (t : Fin (cfgA m).N) (r : Fin 512) (j : Fin 1024) :
    tile (F := Ideal) (xB m c t) (halfT (F := Ideal) 0 (wB m c t)) (halfT (F := Ideal) 1 (wB m c t)) (bgB m c t) (buB m c t) (wdB m c t) (bdB m c t) (ix2 r j)
      = through (token (arg1 m c) (blockOf m t) r) (fun d j => arg2 m c (ix3 (row (counts m c) (blockOf m t)) d j))
        (fun j => arg3 m c (ix2 (row (counts m c) (blockOf m t)) j)) (fun f j => arg4 m c (ix3 (row (counts m c) (blockOf m t)) f j))
        (fun j => arg5 m c (ix2 (row (counts m c) (blockOf m t)) j)) j := by
  have ht : t.val < 288 := t.isLt
  rw [← rowOf_eq m c t]
  refine tile_apply (xB m c t) (wB m c t) (bgB m c t) (buB m c t) (wdB m c t) (bdB m c t) _ _ _ _ _ r
    (fun d => ?_) (fun d j => ?_) (fun f => ?_) (fun f => ?_) (fun f j => ?_) (fun j => ?_) j
  · rw [xB_apply]
    refine token_lanes m c _ _ _ d ?_
    show (t.val * 4096 + (8 * r.val + d.val / 128)) * 128 + d.val % 128 = (512 * t.val + r.val) * 1024 + d.val
    omega
  · rw [wB_apply, start_arg2]
  · exact (bgB_apply m c t _).trans (gate_bias m c _ _ f)
  · exact (buB_apply m c t _).trans (up_bias m c _ _ f)
  · exact (wdB_apply m c t _).trans (down_weights m c _ f j)
  · exact (bdB_apply m c t _).trans (down_bias m c _ _ j)

/-- What a point stores, at an element, is the answer. -/
theorem oB_apply (t : Fin (cfgA m).N) (y : S4096x128.Idx) (r : Fin 512) (j : Fin 1024)
    (hr : (y 0).val / 8 = r.val) (hj : 128 * ((y 0).val % 8) + (y 1).val = j.val) :
    oB m c t y = answerOf m c (blockOf m t) r j := by
  unfold oB answerOf answer
  by_cases h : Used m t
  · rw [if_pos h, if_pos ((used_eq m c t).mp h), ← block_tile]
    unfold lay
    refine congrArg (tile (F := Ideal) (xB m c t) (halfT (F := Ideal) 0 (wB m c t)) (halfT (F := Ideal) 1 (wB m c t)) (bgB m c t) (buB m c t) (wdB m c t) (bdB m c t))
      (funext fun a => Fin.ext ?_)
    match a with
    | ⟨0, _⟩ => exact hr
    | ⟨1, _⟩ => exact hj
  · rw [if_neg h, if_neg (fun h' => h ((used_eq m c t).mpr h'))]
    rfl

/-- An element's block, token and column. -/
def blockAt (i : S1179648x128.Idx) : Fin 288 := ⟨(i 0).val / 4096, by have h : (i 0).val < 1179648 := (i 0).isLt; omega⟩
def tokenAt (i : S1179648x128.Idx) : Fin 512 := ⟨(i 0).val % 4096 / 8, by omega⟩
def colAt (i : S1179648x128.Idx) : Fin 1024 := ⟨128 * ((i 0).val % 8) + (i 1).val, by have h : (i 1).val < 128 := (i 1).isLt; omega⟩

/-- The kernel's result is the answer. -/
theorem result_eq : result m c = fun i => answerOf m c (blockAt i) (tokenAt i) (colAt i) := by
  unfold result
  refine (dats m 0 c).arrAt_eq_of_emb (6 : Fin 7) (fun i : S1179648x128.Idx => answerOf m c (blockAt i) (tokenAt i) (colAt i))
    (fun t _ y => ?_) (cover6 m)
  have h0 := emb6_zero m t y
  have h1 := emb6_one m t y
  generalize hi : (((((cfgA m).win (6 : Fin 7)).blk t).view.emb y : S1179648x128.Idx)) = i at h0 h1
  have y0 : ((y : S4096x128.Idx) 0).val < 4096 := ((y : S4096x128.Idx) 0).isLt
  have hb : blockOf m t = blockAt i := Fin.ext (by show t.val = (i 0).val / 4096; omega)
  refine Eq.trans (b := oB m c t y) rfl ?_
  show oB m c t y = answerOf m c (blockAt i) (tokenAt i) (colAt i)
  rw [← hb]
  refine oB_apply m c t y (tokenAt i) (colAt i) ?_ ?_
  · show ((y : S4096x128.Idx) 0).val / 8 = (i 0).val % 4096 / 8; omega
  · show 128 * (((y : S4096x128.Idx) 0).val % 8) + ((y : S4096x128.Idx) 1).val = 128 * ((i 0).val % 8) + (i 1).val; omega

/-- The reference's result, from memory agreeing on the arguments, is the kernel's. -/
theorem reference_eq : Cert.ReferenceIdeal.Read.val_main_v81 (F := Ideal) (counts m c) (arg1 m c) (arg2 m c) (arg3 m c) (arg4 m c) (arg5 m c)
    = result m c := by
  rw [result_eq]
  funext i
  refine ref_apply (counts m c) (arg1 m c) (arg2 m c) (arg3 m c) (arg4 m c) (arg5 m c) i (blockAt i) (tokenAt i) (colAt i) ?_
  show (i 0).val * 128 + (i 1).val = ((i 0).val / 4096 * 512 + (i 0).val % 4096 / 8) * 1024 + (128 * ((i 0).val % 8) + (i 1).val)
  omega

end Cert.Proof.Experts

namespace Cert.Proof.Experts

open Idealize.ShloMosaic Idealize.ShloMosaic.TcCoe Idealize.SL.Sem

/-- The ideal kernel and the reference end with equal results. -/
theorem experts_agree : Cert.algebraic_KernelIdeal_ReferenceIdeal := fun m g m' g' _ hm =>
  ⟨fun c => result m c,
    (θ_run Cert.KernelIdeal.defs _ _).mono (fun _ h => h.1) (run_main m g),
    (θ_run Cert.ReferenceIdeal.defs _ _).mono (fun _ h c => ⟨(h c).1.trans (by
        obtain ⟨e0, e1, e2, e3, e4, e5⟩ := hm c
        rw [Cert.ReferenceIdeal.Read.val_main_v81_eq]
        refine Eq.trans ?_ (reference_eq m c)
        rw [e0, e1, e2, e3, e4, e5]), (h c).2⟩)
      (Cert.ReferenceIdeal.Value.run m' g')⟩

end Cert.Proof.Experts
-- ==== Proof.InFrames.lean ====
/- The in-projection's three frames: the kernel at bits and at the ideal numbers, both from the one run; the reference, which has no
   kernel. -/
module

public import proofs.«01_k».proof.Defs
public import proofs.«01_k».proof.Proof.Gen.Kernel2
public import proofs.«01_k».proof.Proof.Gen.Kernel2Ideal.Frame
public import proofs.«01_k».proof.Proof.Gen.Reference2Ideal.Run
public import Idealize.ShloMosaic.Lib.Quiescent

@[expose] public section

noncomputable section

namespace Cert.Proof.InProj

open Idealize.ShloMosaic Idealize.ShloMosaic.TcCoe Idealize.SL.Sem Idealize.ShloMosaic.Tactic

/-- The ideal kernel ends with its arguments unchanged and its counters at zero. -/
theorem frame_ideal : Cert.quiescent_Kernel2Ideal := fun m g _ => Cert.Kernel2Ideal.Gen.frame m g

/-- The ideal kernel's frame over bits. -/
theorem frame_bits (m : (ℓ : Loc Cert.Kernel2Ideal.nD Cert.Kernel2Ideal.τ Cert.Kernel2Ideal.sig) → Buf (Elt Bits) ℓ) (g : Dev Cert.Kernel2Ideal.nD → PrngReg) :
    θ_run (Cert.Kernel2Ideal.defs (F := Bits)) (onTc (τ := Cert.Kernel2Ideal.τ) (Cert.Kernel2Ideal.main (F := Bits))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0) :=
  Cert.Kernel2Ideal.Gen.frame (F := Bits) m g

/-- The kernel ends with its arguments unchanged and its counters at zero: at bits the two programs are one text. -/
theorem frame_kernel : Cert.quiescent_Kernel2 := by
  have h : (∀ m g, Cert.Pre_Kernel2 m → _) := fun m g (_ : Cert.Pre_Kernel2 m) => frame_bits m g
  refine Eq.mp ?_ h
  sl_kernel_rfl

/-- The reference ends with its arguments unchanged and its counters at zero. -/
theorem frame_reference : Cert.quiescent_Reference2Ideal := fun m g _ =>
  (θ_run Cert.Reference2Ideal.defs _ _).mono (fun r h => ⟨fun c => (h c).2.2.2.2.2.2.2.2.2.2.2, sem_eq_zero_of_no_sems (by decide) r.2⟩) (Cert.Reference2Ideal.Value.run m g)

end Cert.Proof.InProj
-- ==== Proof.InPlain.lean ====
/- One token through the in-projection, written over the extended reals: what both programs are shown to compute. -/
module

public import Idealize.ShloMosaic.PureOps.Ideal.Laws
public import Idealize.ShloMosaic.Lib.IdealHost
public import Idealize.ShloMosaic.Lib.ValueIdx

@[expose] public section

noncomputable section

namespace Cert.Proof.InProj

open Idealize.ShloMosaic Idealize.ShloMosaic.ValueIdx

/-- A token divided by the root of its mean square (1e-5 added), weighted channel by channel. -/
def normed (x g : Fin 1024 → EReal) (d : Fin 1024) : EReal :=
  x d * Ideal.rsqrt (Ideal.div (∑ k, x k * x k) (Ideal.ofBits .f32 0x44800000#32) + Ideal.ofBits .f32 0x3727C5AC#32) * g d

/-- One column of the projection of the normalized token. -/
def column (x g w : Fin 1024 → EReal) : EReal := ∑ d, normed x g d * w d

/-- The queries' scale: the head's width to the power -1/2, times log2 e, as rounded to f32. -/
def qscale : EReal := Ideal.ofBits .f32 0x3E38AA3B#32

/-- The scale is a positive number. -/
theorem qscale_eq : ∃ r : ℝ, 0 ≤ r ∧ qscale = ((r : ℝ) : EReal) := by
  refine ⟨12102203 * 2 ^ (-26 : Int), by positivity, ?_⟩
  unfold qscale
  simp [Ideal.ofBits, Ideal.ieee]

/-- A sum of extended reals times the scale is the sum of the scaled ones. -/
theorem sum_scaled (s : Finset (Fin 1024)) (f : Fin 1024 → EReal) : (∑ d ∈ s, f d * qscale) = (∑ d ∈ s, f d) * qscale := by
  obtain ⟨r, hr, e⟩ := qscale_eq
  rw [e]
  induction s using Finset.induction_on with
  | empty => rw [Finset.sum_empty, Finset.sum_empty, zero_mul]
  | insert a s ha ih =>
    rw [Finset.sum_insert ha, Finset.sum_insert ha, ih]
    exact (EReal.right_distrib_of_nonneg_of_ne_top (EReal.coe_nonneg.mpr hr) (EReal.coe_ne_top r) _ _).symm

/-- A scaled column of weights gives the scaled column of the projection. -/
theorem column_scaled (x g w : Fin 1024 → EReal) : column x g (fun d => w d * qscale) = column x g w * qscale := by
  unfold column
  rw [← sum_scaled]
  exact Finset.sum_congr rfl fun d _ => (mul_assoc _ _ _).symm

/-- A column of zeros gives zero. -/
theorem column_zero (x g : Fin 1024 → EReal) : column x g (fun _ => 0) = 0 :=
  Finset.sum_eq_zero fun d _ => mul_zero _

/-- Column `j` of the projection of token `s` of sequence `b`. -/
def proj (x : (⟨3, ![4, 8192, 1024]⟩ : Shape).Idx → EReal) (g : (⟨1, ![1024]⟩ : Shape).Idx → EReal) (w : (⟨2, ![1024, 2840]⟩ : Shape).Idx → EReal)
    (b : Fin 4) (s : Fin 8192) (j : Fin 2840) : EReal :=
  column (fun k => x (ix3 b s k)) (fun k => g (ix1 k)) (fun d => w (ix2 d j))

/-- The column a gate's row holds: of the 16 rows of a group of heads, row `4 t + h` is branch `t` of head `h`. -/
def gateCol (R : Fin 32) (h : R.val % 16 < 12) : Fin 2840 :=
  ⟨2816 + R.val / 16 * 12 + R.val % 16 % 4 * 3 + R.val % 16 / 4, by have := R.isLt; omega⟩

/-- A gate before its sigmoid: the last 4 of a group's 16 rows are zero. -/
def gate (x : (⟨3, ![4, 8192, 1024]⟩ : Shape).Idx → EReal) (g : (⟨1, ![1024]⟩ : Shape).Idx → EReal) (w : (⟨2, ![1024, 2840]⟩ : Shape).Idx → EReal)
    (b : Fin 4) (R : Fin 32) (s : Fin 8192) : EReal :=
  if h : R.val % 16 < 12 then proj x g w b s (gateCol R h) else 0

end Cert.Proof.InProj
-- ==== Proof.InTile.lean ====
/- What a grid point of the in-projection computes at the extended reals, element by element: the normalized tokens and their three
   products. -/
module

public import proofs.«01_k».proof.Proof.Gen.Kernel2Ideal.Skeleton
public import proofs.«01_k».proof.Proof.InPlain
public import Idealize.ShloMosaic.Lib.Pipeline.Value
public import Idealize.ShloMosaic.Lib.ValueLayout

@[expose] public section

set_option maxRecDepth 16384

noncomputable section

namespace Cert.Proof.InProj

open Cert.Kernel2Ideal Cert.Kernel2Ideal.Gen
open Idealize.ShloMosaic Idealize.ShloMosaic.ValueIdx

/-- A column vector under every channel. -/
theorem spreadRow_apply (v : S512x1.Idx → EReal) (r : Fin 512) (d : Fin 1024) :
    broadcastTo S512x1024 v broadcasts_S512x1_S512x1024 (ix2 r d) = v (ix2 r (0 : Fin 1)) :=
  broadcastTo_apply _ broadcasts_S512x1_S512x1024 (ix2 r d) (ix2 r (0 : Fin 1)) (fun a => match a with
    | ⟨0, _⟩ => rfl
    | ⟨1, _⟩ => rfl)

/-- The channels' weights under every token. -/
theorem spreadCol_apply (v : S1x1024.Idx → EReal) (r : Fin 512) (d : Fin 1024) :
    broadcastTo S512x1024 v broadcasts_S1x1024_S512x1024 (ix2 r d) = v (ix2 (0 : Fin 1) d) :=
  broadcastTo_apply _ broadcasts_S1x1024_S512x1024 (ix2 r d) (ix2 (0 : Fin 1) d) (fun a => match a with
    | ⟨0, _⟩ => rfl
    | ⟨1, _⟩ => rfl)

/-- A block's tokens with the leading axis of one dropped. -/
theorem tokens_apply (v : S1x512x1024.Idx → EReal) (r : Fin 512) (d : Fin 1024) :
    shapeCast S512x1024 v shapeCasts_S1x512x1024_S512x1024 (ix2 r d) = v (ix3 (0 : Fin 1) r d) :=
  shapeCast_apply v _ (ix2 r d) (ix3 (0 : Fin 1) r d) (by
    rw [Shape.rowMajor_val_two, Shape.rowMajor_val_three]
    show (0 * 512 + r.val) * 1024 + d.val = r.val * 1024 + d.val
    omega)

/-- A row's sum, kept as a column. -/
theorem rowSum_apply (u : S512x1024.Idx → EReal) (r : Fin 512) :
    shapeCast S512x1 (multiReduction (F := Ideal) (φ := .f32) .add [1] S512 u 0x00000000#32 reduces_S512x1024_S512 (.inl rfl) rfl) shapeCasts_S512_S512x1 (ix2 r (0 : Fin 1))
      = ∑ k : Fin 1024, u (ix2 r k) := by
  rw [shapeCast_apply _ shapeCasts_S512_S512x1 (ix2 r (0 : Fin 1)) (ix1 r) (by
    rw [Shape.rowMajor_val_one, Shape.rowMajor_val_two]
    show r.val = r.val * 1 + 0
    omega)]
  refine (Ideal.multiReduction_add_single u 0x00000000#32 reduces_S512x1024_S512 (.inl rfl) rfl (ix1 r)).trans ?_
  refine Finset.sum_congr rfl fun k _ => congrArg u (funext fun a => Fin.ext ?_)
  match a with
  | ⟨0, _⟩ => rfl
  | ⟨1, _⟩ => rfl

/-- The normalized tokens of a block. -/
theorem normed_apply (v0 : S1x512x1024.Idx → EReal) (v2 : S1x1024.Idx → EReal) (r : Fin 512) (d : Fin 1024) :
    k0_pay3 (F := Ideal) v0 v2 (ix2 r d) = normed (fun k => v0 (ix3 (0 : Fin 1) r k)) (fun k => v2 (ix2 (0 : Fin 1) k)) d := by
  unfold k0_pay3 normed
  refine congrArg₂ (· * ·) (congrArg₂ (· * ·) (tokens_apply v0 r d) ((spreadRow_apply _ r d).trans (congrArg Ideal.rsqrt ?_)))
    ((spreadCol_apply _ r d).trans (by rw [shapeCast_self]))
  refine congrArg₂ (· + ·) (congrArg₂ Ideal.div ((rowSum_apply _ r).trans (Finset.sum_congr rfl fun k _ => ?_)) rfl) rfl
  exact congrArg₂ (· * ·) (tokens_apply v0 r k) (tokens_apply v0 r k)

/-- The product with the row weights, at an element. -/
theorem rowProduct_apply (v0 : S1x512x1024.Idx → EReal) (v2 : S1x1024.Idx → EReal) (w : S1024x1024.Idx → EReal) (r : Fin 512) (f : Fin 1024) :
    k0_pay5 (F := Ideal) v0 v2 w (ix2 r f)
      = column (fun k => v0 (ix3 (0 : Fin 1) r k)) (fun k => v2 (ix2 (0 : Fin 1) k)) (fun d => w (ix2 d f)) := by
  unfold k0_pay5 column
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  refine congrArg₂ (· * ·) (Eq.trans (congrArg (k0_pay3 (F := Ideal) v0 v2) (funext fun q => Fin.ext ?_)) (normed_apply v0 v2 r k)) ?_
  · match q with
    | ⟨0, _⟩ => rfl
    | ⟨1, _⟩ => exact (dot_S512x1024_S1024x1024_S512x1024_1_0_0_1_n_n.lhsIdx_val_of_single rfl _ _).trans hk
  · rw [shapeCast_self]
    refine congrArg w (funext fun q => Fin.ext ?_)
    match q with
    | ⟨0, _⟩ => exact (dot_S512x1024_S1024x1024_S512x1024_1_0_0_1_n_n.rhsIdx_val_of_single rfl _ _).trans hk
    | ⟨1, _⟩ => rfl

/-- The product of the transposed weights with the tokens, at an element. -/
theorem colProduct_apply (v0 : S1x512x1024.Idx → EReal) (v2 : S1x1024.Idx → EReal) (w : S1792x1024.Idx → EReal) (f : Fin 1792) (r : Fin 512) :
    k0_pay11 (F := Ideal) (k0_pay4 (F := Ideal) v0 v2) w (ix2 f r)
      = column (fun k => v0 (ix3 (0 : Fin 1) r k)) (fun k => v2 (ix2 (0 : Fin 1) k)) (fun d => w (ix2 f d)) := by
  unfold k0_pay11 column
  simp only [matmul]
  rw [Ideal.matmul_constant_zero_apply, ← Equiv.sum_comp (contrEquiv1 dot_S1792x1024_S512x1024_S1792x512_1_1_0_0_n_n 1024 rfl rfl).symm]
  refine Finset.sum_congr rfl fun k _ => ?_
  have hk := contrEquiv1_symm_val dot_S1792x1024_S512x1024_S1792x512_1_1_0_0_n_n 1024 rfl rfl k
  refine Eq.trans (congrArg₂ (· * ·) ?_ (Eq.trans (congrArg (k0_pay3 (F := Ideal) v0 v2) (funext fun q => Fin.ext ?_)) (normed_apply v0 v2 r k))) (mul_comm _ _)
  · rw [shapeCast_self]
    refine congrArg w (funext fun q => Fin.ext ?_)
    match q with
    | ⟨0, _⟩ => rfl
    | ⟨1, _⟩ => exact (dot_S1792x1024_S512x1024_S1792x512_1_1_0_0_n_n.lhsIdx_val_of_single rfl _ _).trans hk
  · match q with
    | ⟨0, _⟩ => rfl
    | ⟨1, _⟩ => exact (dot_S1792x1024_S512x1024_S1792x512_1_1_0_0_n_n.rhsIdx_val_of_single rfl _ _).trans hk

/-- The gates of a block, at an element: the sigmoid of a column. -/
theorem gates_apply (v0 : S1x512x1024.Idx → EReal) (v2 : S1x1024.Idx → EReal) (w : S32x1024.Idx → EReal) (f : Fin 32) (r : Fin 512) (z : Fin 1) :
    k0_pay2 (F := Ideal) (k0_pay3 (F := Ideal) v0 v2) w (ix3 z f r)
      = Ideal.logistic (column (fun k => v0 (ix3 (0 : Fin 1) r k)) (fun k => v2 (ix2 (0 : Fin 1) k)) (fun d => w (ix2 f d))) := by
  unfold k0_pay2 column
  rw [shapeCast_apply _ shapeCasts_S32x512_S1x32x512 (ix3 z f r) (ix2 f r) (by
    rw [Shape.rowMajor_val_two, Shape.rowMajor_val_three]
    show f.val * 512 + r.val = (z.val * 32 + f.val) * 512 + r.val
    omega)]
  refine congrArg Ideal.logistic ?_
  simp only [matmul]
  rw [Ideal.matmul_constant_zero_apply, ← Equiv.sum_comp (contrEquiv1 dot_S32x1024_S512x1024_S32x512_1_1_0_0_n_n 1024 rfl rfl).symm]
  refine Finset.sum_congr rfl fun k _ => ?_
  have hk := contrEquiv1_symm_val dot_S32x1024_S512x1024_S32x512_1_1_0_0_n_n 1024 rfl rfl k
  refine Eq.trans (congrArg₂ (· * ·) ?_ (Eq.trans (congrArg (k0_pay3 (F := Ideal) v0 v2) (funext fun q => Fin.ext ?_)) (normed_apply v0 v2 r k))) (mul_comm _ _)
  · rw [shapeCast_self]
    refine congrArg w (funext fun q => Fin.ext ?_)
    match q with
    | ⟨0, _⟩ => rfl
    | ⟨1, _⟩ => exact (dot_S32x1024_S512x1024_S32x512_1_1_0_0_n_n.lhsIdx_val_of_single rfl _ _).trans hk
  · match q with
    | ⟨0, _⟩ => rfl
    | ⟨1, _⟩ => exact (dot_S32x1024_S512x1024_S32x512_1_1_0_0_n_n.rhsIdx_val_of_single rfl _ _).trans hk

end Cert.Proof.InProj
-- ==== Proof.InHost.lean ====
/- The weights the in-projection is launched with, as the host's operations make them of the projection's columns: the columns whose
   products are kept by rows, those kept transposed (the queries' scaled), and the gates', their branches outermost and padded to
   16 rows a group. -/
module

public import proofs.«01_k».proof.Proof.Gen.Kernel2Ideal.Frame
public import proofs.«01_k».proof.Proof.InPlain
public import Idealize.ShloMosaic.Lib.StableHlo.RunRead
public import Idealize.ShloMosaic.Lib.Pipeline.Value
public import Idealize.ShloMosaic.Lib.KernelVsHost

@[expose] public section

set_option maxRecDepth 16384

noncomputable section

namespace Cert.Proof.InProj

open Cert.Kernel2Ideal Cert.Kernel2Ideal.Gen
open Idealize.ShloMosaic Idealize.ShloMosaic.ValueIdx
open Idealize.ShloMosaic.TcCoe Idealize.ShloMosaic.Tactic
open Idealize.SL.Sem

section Arrays

variable {F : FTy → Type} [FloatOps F]

/-- The scale the queries' columns are multiplied by. -/
def scales : S1024x512.Idx → F .f32 := broadcastInDim S1024x512 ![] bcast_S_S1024x512 (constant S_ .f32 0x3E38AA3B#32)

/-- The columns whose products are kept by rows, side by side: the main keys, the compressed, the selected and the window's. -/
def rowStack (w : S1024x2840.Idx → F .f32) : S1024x1024.Idx → F .f32 :=
  concatenate S1024x1024 1
    [⟨S1024x512, extractStridedSlice S1024x512 ![0, 512] w slices_S1024x2840_S1024x512_0_512⟩,
     ⟨S1024x128, extractStridedSlice S1024x128 ![0, 2048] w slices_S1024x2840_S1024x128_0_2048⟩,
     ⟨S1024x128, extractStridedSlice S1024x128 ![0, 2176] w slices_S1024x2840_S1024x128_0_2176⟩,
     ⟨S1024x128, extractStridedSlice S1024x128 ![0, 2304] w slices_S1024x2840_S1024x128_0_2304⟩,
     ⟨S1024x128, extractStridedSlice S1024x128 ![0, 2560] w slices_S1024x2840_S1024x128_0_2560⟩]
    concatenates_S1024x512_S1024x128_S1024x128_S1024x128_S1024x128_S1024x1024_d1

/-- The weights of the products kept by rows. -/
def rowWeights (w : S1024x2840.Idx → F .f32) : S1024x1024.Idx → F .bf16 := truncf .bf16 (rowStack w) bitsLt_bf16_f32

/-- The columns whose products are kept transposed, side by side, the two queries' scaled. -/
def colStack (w : S1024x2840.Idx → F .f32) : S1024x1792.Idx → F .f32 :=
  concatenate S1024x1792 1
    [⟨S1024x512, mulf (extractStridedSlice S1024x512 ![0, 0] w slices_S1024x2840_S1024x512_0_0) scales⟩,
     ⟨S1024x512, extractStridedSlice S1024x512 ![0, 1024] w slices_S1024x2840_S1024x512_0_1024⟩,
     ⟨S1024x512, mulf (extractStridedSlice S1024x512 ![0, 1536] w slices_S1024x2840_S1024x512_0_1536) scales⟩,
     ⟨S1024x128, extractStridedSlice S1024x128 ![0, 2432] w slices_S1024x2840_S1024x128_0_2432⟩,
     ⟨S1024x128, extractStridedSlice S1024x128 ![0, 2688] w slices_S1024x2840_S1024x128_0_2688⟩]
    concatenates_S1024x512_S1024x512_S1024x512_S1024x128_S1024x128_S1024x1792_d1

/-- The weights of the products kept transposed. -/
def colWeights (w : S1024x2840.Idx → F .f32) : S1792x1024.Idx → F .bf16 :=
  truncf .bf16 (transpose S1792x1024 [1, 0] (colStack w) transposes_S1024x1792_S1792x1024_1_0) bitsLt_bf16_f32

/-- The gates' weights by group and row, a group's 12 rows branch by branch. -/
def gateRows (w : S1024x2840.Idx → F .f32) : S2x12x1024.Idx → F .f32 :=
  shapeCast S2x12x1024 (transpose S2x3x4x1024 [1, 3, 2, 0]
    (shapeCast S1024x2x4x3 (extractStridedSlice S1024x24 ![0, 2816] w slices_S1024x2840_S1024x24_0_2816) shapeCasts_S1024x24_S1024x2x4x3)
    transposes_S1024x2x4x3_S2x3x4x1024_1_3_2_0) shapeCasts_S2x3x4x1024_S2x12x1024

/-- The gates' weights, each group padded to 16 rows. -/
def gateWeights (w : S1024x2840.Idx → F .f32) : S32x1024.Idx → F .f32 :=
  shapeCast S32x1024 (pad S2x16x1024 ![0, 0, 0] ![0, 4, 0] ![0, 0, 0] (gateRows w) (sitofp .f32 (constantI S_ 32 0#32))
    pads_S2x12x1024_S2x16x1024_000_040_000 h_S_) shapeCasts_S2x16x1024_S32x1024

variable (m : (ℓ : Loc nD τ sig) → Buf (Elt F) ℓ) (c : Dev nD)

/-- The row weights as the launch finds them. -/
theorem start_row : V m c main_v12 = rowWeights (m (c, Proc.devRef .tc main_arg2)) := by
  unfold V
  simp only [List.flatten_cons, List.flatten_nil, List.cons_append, List.nil_append]
  after_reads_simp
  first | rfl | sl_kernel_rfl

/-- The transposed weights as the launch finds them. -/
theorem start_col : V m c main_v19 = colWeights (m (c, Proc.devRef .tc main_arg2)) := by
  unfold V
  simp only [List.flatten_cons, List.flatten_nil, List.cons_append, List.nil_append]
  after_reads_simp
  first | rfl | sl_kernel_rfl

/-- The gates' weights as the launch finds them. -/
theorem start_gate : V m c main_v24 = gateWeights (m (c, Proc.devRef .tc main_arg2)) := by
  unfold V
  simp only [List.flatten_cons, List.flatten_nil, List.cons_append, List.nil_append]
  after_reads_simp
  first | rfl | sl_kernel_rfl

/-- The channels' weights as the launch finds them. -/
theorem start_norm : V m c main_v25 = shapeCast S1x1024 (m (c, Proc.devRef .tc main_arg1) : S1024.Idx → F .f32) shapeCasts_S1024_S1x1024 := by
  unfold V
  simp only [List.flatten_cons, List.flatten_nil, List.cons_append, List.nil_append]
  after_reads_simp
  first | rfl | sl_kernel_rfl

end Arrays

/-- The channels' weights at a channel. -/
theorem norm_apply (g : S1024.Idx → EReal) (z : Fin 1) (d : Fin 1024) :
    shapeCast S1x1024 g shapeCasts_S1024_S1x1024 (ix2 z d) = g (ix1 d) :=
  shapeCast_apply g _ (ix2 z d) (ix1 d) (by
    rw [Shape.rowMajor_val_one, Shape.rowMajor_val_two]
    show d.val = z.val * 1024 + d.val
    omega)

/-- The first of the row weights' pieces, within all. -/
theorem catRow_mk (x0 : S1024x512.Idx → EReal) (x1 : S1024x128.Idx → EReal) (x2 : S1024x128.Idx → EReal) (x3 : S1024x128.Idx → EReal) (x4 : S1024x128.Idx → EReal) (d : Fin 1024) (f : Fin 512) :
    concatenate S1024x1024 1 [⟨S1024x512, x0⟩, ⟨S1024x128, x1⟩, ⟨S1024x128, x2⟩, ⟨S1024x128, x3⟩, ⟨S1024x128, x4⟩] concatenates_S1024x512_S1024x128_S1024x128_S1024x128_S1024x128_S1024x1024_d1 (ix2 d (⟨f.val + 0, by omega⟩ : Fin 1024)) = x0 (ix2 d f) :=
  concatenate_apply_piece (t := S1024x1024) (1 : Fin 2) [⟨S1024x512, x0⟩, ⟨S1024x128, x1⟩, ⟨S1024x128, x2⟩, ⟨S1024x128, x3⟩, ⟨S1024x128, x4⟩] concatenates_S1024x512_S1024x128_S1024x128_S1024x128_S1024x128_S1024x1024_d1
    (ix2 d (⟨f.val + 0, by omega⟩ : Fin 1024)) 0 (by show 0 < 5; omega) S1024x512 x0 rfl rfl 0 rfl (ix2 d f)
    (fun b hb => match b with
      | ⟨0, _⟩ => rfl
      | ⟨1, _⟩ => absurd rfl hb)
    (by show 0 + f.val = f.val + 0; omega)

/-- The second of the row weights' pieces, within all. -/
theorem catRow_kc (x0 : S1024x512.Idx → EReal) (x1 : S1024x128.Idx → EReal) (x2 : S1024x128.Idx → EReal) (x3 : S1024x128.Idx → EReal) (x4 : S1024x128.Idx → EReal) (d : Fin 1024) (f : Fin 128) :
    concatenate S1024x1024 1 [⟨S1024x512, x0⟩, ⟨S1024x128, x1⟩, ⟨S1024x128, x2⟩, ⟨S1024x128, x3⟩, ⟨S1024x128, x4⟩] concatenates_S1024x512_S1024x128_S1024x128_S1024x128_S1024x128_S1024x1024_d1 (ix2 d (⟨f.val + 512, by omega⟩ : Fin 1024)) = x1 (ix2 d f) :=
  concatenate_apply_piece (t := S1024x1024) (1 : Fin 2) [⟨S1024x512, x0⟩, ⟨S1024x128, x1⟩, ⟨S1024x128, x2⟩, ⟨S1024x128, x3⟩, ⟨S1024x128, x4⟩] concatenates_S1024x512_S1024x128_S1024x128_S1024x128_S1024x128_S1024x1024_d1
    (ix2 d (⟨f.val + 512, by omega⟩ : Fin 1024)) 1 (by show 1 < 5; omega) S1024x128 x1 rfl rfl 512 rfl (ix2 d f)
    (fun b hb => match b with
      | ⟨0, _⟩ => rfl
      | ⟨1, _⟩ => absurd rfl hb)
    (by show 512 + f.val = f.val + 512; omega)

/-- The third of the row weights' pieces, within all. -/
theorem catRow_vc (x0 : S1024x512.Idx → EReal) (x1 : S1024x128.Idx → EReal) (x2 : S1024x128.Idx → EReal) (x3 : S1024x128.Idx → EReal) (x4 : S1024x128.Idx → EReal) (d : Fin 1024) (f : Fin 128) :
    concatenate S1024x1024 1 [⟨S1024x512, x0⟩, ⟨S1024x128, x1⟩, ⟨S1024x128, x2⟩, ⟨S1024x128, x3⟩, ⟨S1024x128, x4⟩] concatenates_S1024x512_S1024x128_S1024x128_S1024x128_S1024x128_S1024x1024_d1 (ix2 d (⟨f.val + 640, by omega⟩ : Fin 1024)) = x2 (ix2 d f) :=
  concatenate_apply_piece (t := S1024x1024) (1 : Fin 2) [⟨S1024x512, x0⟩, ⟨S1024x128, x1⟩, ⟨S1024x128, x2⟩, ⟨S1024x128, x3⟩, ⟨S1024x128, x4⟩] concatenates_S1024x512_S1024x128_S1024x128_S1024x128_S1024x128_S1024x1024_d1
    (ix2 d (⟨f.val + 640, by omega⟩ : Fin 1024)) 2 (by show 2 < 5; omega) S1024x128 x2 rfl rfl 640 rfl (ix2 d f)
    (fun b hb => match b with
      | ⟨0, _⟩ => rfl
      | ⟨1, _⟩ => absurd rfl hb)
    (by show 640 + f.val = f.val + 640; omega)

/-- The fourth of the row weights' pieces, within all. -/
theorem catRow_ks (x0 : S1024x512.Idx → EReal) (x1 : S1024x128.Idx → EReal) (x2 : S1024x128.Idx → EReal) (x3 : S1024x128.Idx → EReal) (x4 : S1024x128.Idx → EReal) (d : Fin 1024) (f : Fin 128) :
    concatenate S1024x1024 1 [⟨S1024x512, x0⟩, ⟨S1024x128, x1⟩, ⟨S1024x128, x2⟩, ⟨S1024x128, x3⟩, ⟨S1024x128, x4⟩] concatenates_S1024x512_S1024x128_S1024x128_S1024x128_S1024x128_S1024x1024_d1 (ix2 d (⟨f.val + 768, by omega⟩ : Fin 1024)) = x3 (ix2 d f) :=
  concatenate_apply_piece (t := S1024x1024) (1 : Fin 2) [⟨S1024x512, x0⟩, ⟨S1024x128, x1⟩, ⟨S1024x128, x2⟩, ⟨S1024x128, x3⟩, ⟨S1024x128, x4⟩] concatenates_S1024x512_S1024x128_S1024x128_S1024x128_S1024x128_S1024x1024_d1
    (ix2 d (⟨f.val + 768, by omega⟩ : Fin 1024)) 3 (by show 3 < 5; omega) S1024x128 x3 rfl rfl 768 rfl (ix2 d f)
    (fun b hb => match b with
      | ⟨0, _⟩ => rfl
      | ⟨1, _⟩ => absurd rfl hb)
    (by show 768 + f.val = f.val + 768; omega)

/-- The fifth of the row weights' pieces, within all. -/
theorem catRow_kw (x0 : S1024x512.Idx → EReal) (x1 : S1024x128.Idx → EReal) (x2 : S1024x128.Idx → EReal) (x3 : S1024x128.Idx → EReal) (x4 : S1024x128.Idx → EReal) (d : Fin 1024) (f : Fin 128) :
    concatenate S1024x1024 1 [⟨S1024x512, x0⟩, ⟨S1024x128, x1⟩, ⟨S1024x128, x2⟩, ⟨S1024x128, x3⟩, ⟨S1024x128, x4⟩] concatenates_S1024x512_S1024x128_S1024x128_S1024x128_S1024x128_S1024x1024_d1 (ix2 d (⟨f.val + 896, by omega⟩ : Fin 1024)) = x4 (ix2 d f) :=
  concatenate_apply_piece (t := S1024x1024) (1 : Fin 2) [⟨S1024x512, x0⟩, ⟨S1024x128, x1⟩, ⟨S1024x128, x2⟩, ⟨S1024x128, x3⟩, ⟨S1024x128, x4⟩] concatenates_S1024x512_S1024x128_S1024x128_S1024x128_S1024x128_S1024x1024_d1
    (ix2 d (⟨f.val + 896, by omega⟩ : Fin 1024)) 4 (by show 4 < 5; omega) S1024x128 x4 rfl rfl 896 rfl (ix2 d f)
    (fun b hb => match b with
      | ⟨0, _⟩ => rfl
      | ⟨1, _⟩ => absurd rfl hb)
    (by show 896 + f.val = f.val + 896; omega)

/-- The first of the transposed weights' pieces, within all. -/
theorem catCol_mq (x0 : S1024x512.Idx → EReal) (x1 : S1024x512.Idx → EReal) (x2 : S1024x512.Idx → EReal) (x3 : S1024x128.Idx → EReal) (x4 : S1024x128.Idx → EReal) (d : Fin 1024) (f : Fin 512) :
    concatenate S1024x1792 1 [⟨S1024x512, x0⟩, ⟨S1024x512, x1⟩, ⟨S1024x512, x2⟩, ⟨S1024x128, x3⟩, ⟨S1024x128, x4⟩] concatenates_S1024x512_S1024x512_S1024x512_S1024x128_S1024x128_S1024x1792_d1 (ix2 d (⟨f.val + 0, by omega⟩ : Fin 1792)) = x0 (ix2 d f) :=
  concatenate_apply_piece (t := S1024x1792) (1 : Fin 2) [⟨S1024x512, x0⟩, ⟨S1024x512, x1⟩, ⟨S1024x512, x2⟩, ⟨S1024x128, x3⟩, ⟨S1024x128, x4⟩] concatenates_S1024x512_S1024x512_S1024x512_S1024x128_S1024x128_S1024x1792_d1
    (ix2 d (⟨f.val + 0, by omega⟩ : Fin 1792)) 0 (by show 0 < 5; omega) S1024x512 x0 rfl rfl 0 rfl (ix2 d f)
    (fun b hb => match b with
      | ⟨0, _⟩ => rfl
      | ⟨1, _⟩ => absurd rfl hb)
    (by show 0 + f.val = f.val + 0; omega)

/-- The second of the transposed weights' pieces, within all. -/
theorem catCol_mv (x0 : S1024x512.Idx → EReal) (x1 : S1024x512.Idx → EReal) (x2 : S1024x512.Idx → EReal) (x3 : S1024x128.Idx → EReal) (x4 : S1024x128.Idx → EReal) (d : Fin 1024) (f : Fin 512) :
    concatenate S1024x1792 1 [⟨S1024x512, x0⟩, ⟨S1024x512, x1⟩, ⟨S1024x512, x2⟩, ⟨S1024x128, x3⟩, ⟨S1024x128, x4⟩] concatenates_S1024x512_S1024x512_S1024x512_S1024x128_S1024x128_S1024x1792_d1 (ix2 d (⟨f.val + 512, by omega⟩ : Fin 1792)) = x1 (ix2 d f) :=
  concatenate_apply_piece (t := S1024x1792) (1 : Fin 2) [⟨S1024x512, x0⟩, ⟨S1024x512, x1⟩, ⟨S1024x512, x2⟩, ⟨S1024x128, x3⟩, ⟨S1024x128, x4⟩] concatenates_S1024x512_S1024x512_S1024x512_S1024x128_S1024x128_S1024x1792_d1
    (ix2 d (⟨f.val + 512, by omega⟩ : Fin 1792)) 1 (by show 1 < 5; omega) S1024x512 x1 rfl rfl 512 rfl (ix2 d f)
    (fun b hb => match b with
      | ⟨0, _⟩ => rfl
      | ⟨1, _⟩ => absurd rfl hb)
    (by show 512 + f.val = f.val + 512; omega)

/-- The third of the transposed weights' pieces, within all. -/
theorem catCol_nq (x0 : S1024x512.Idx → EReal) (x1 : S1024x512.Idx → EReal) (x2 : S1024x512.Idx → EReal) (x3 : S1024x128.Idx → EReal) (x4 : S1024x128.Idx → EReal) (d : Fin 1024) (f : Fin 512) :
    concatenate S1024x1792 1 [⟨S1024x512, x0⟩, ⟨S1024x512, x1⟩, ⟨S1024x512, x2⟩, ⟨S1024x128, x3⟩, ⟨S1024x128, x4⟩] concatenates_S1024x512_S1024x512_S1024x512_S1024x128_S1024x128_S1024x1792_d1 (ix2 d (⟨f.val + 1024, by omega⟩ : Fin 1792)) = x2 (ix2 d f) :=
  concatenate_apply_piece (t := S1024x1792) (1 : Fin 2) [⟨S1024x512, x0⟩, ⟨S1024x512, x1⟩, ⟨S1024x512, x2⟩, ⟨S1024x128, x3⟩, ⟨S1024x128, x4⟩] concatenates_S1024x512_S1024x512_S1024x512_S1024x128_S1024x128_S1024x1792_d1
    (ix2 d (⟨f.val + 1024, by omega⟩ : Fin 1792)) 2 (by show 2 < 5; omega) S1024x512 x2 rfl rfl 1024 rfl (ix2 d f)
    (fun b hb => match b with
      | ⟨0, _⟩ => rfl
      | ⟨1, _⟩ => absurd rfl hb)
    (by show 1024 + f.val = f.val + 1024; omega)

/-- The fourth of the transposed weights' pieces, within all. -/
theorem catCol_vs (x0 : S1024x512.Idx → EReal) (x1 : S1024x512.Idx → EReal) (x2 : S1024x512.Idx → EReal) (x3 : S1024x128.Idx → EReal) (x4 : S1024x128.Idx → EReal) (d : Fin 1024) (f : Fin 128) :
    concatenate S1024x1792 1 [⟨S1024x512, x0⟩, ⟨S1024x512, x1⟩, ⟨S1024x512, x2⟩, ⟨S1024x128, x3⟩, ⟨S1024x128, x4⟩] concatenates_S1024x512_S1024x512_S1024x512_S1024x128_S1024x128_S1024x1792_d1 (ix2 d (⟨f.val + 1536, by omega⟩ : Fin 1792)) = x3 (ix2 d f) :=
  concatenate_apply_piece (t := S1024x1792) (1 : Fin 2) [⟨S1024x512, x0⟩, ⟨S1024x512, x1⟩, ⟨S1024x512, x2⟩, ⟨S1024x128, x3⟩, ⟨S1024x128, x4⟩] concatenates_S1024x512_S1024x512_S1024x512_S1024x128_S1024x128_S1024x1792_d1
    (ix2 d (⟨f.val + 1536, by omega⟩ : Fin 1792)) 3 (by show 3 < 5; omega) S1024x128 x3 rfl rfl 1536 rfl (ix2 d f)
    (fun b hb => match b with
      | ⟨0, _⟩ => rfl
      | ⟨1, _⟩ => absurd rfl hb)
    (by show 1536 + f.val = f.val + 1536; omega)

/-- The fifth of the transposed weights' pieces, within all. -/
theorem catCol_vw (x0 : S1024x512.Idx → EReal) (x1 : S1024x512.Idx → EReal) (x2 : S1024x512.Idx → EReal) (x3 : S1024x128.Idx → EReal) (x4 : S1024x128.Idx → EReal) (d : Fin 1024) (f : Fin 128) :
    concatenate S1024x1792 1 [⟨S1024x512, x0⟩, ⟨S1024x512, x1⟩, ⟨S1024x512, x2⟩, ⟨S1024x128, x3⟩, ⟨S1024x128, x4⟩] concatenates_S1024x512_S1024x512_S1024x512_S1024x128_S1024x128_S1024x1792_d1 (ix2 d (⟨f.val + 1664, by omega⟩ : Fin 1792)) = x4 (ix2 d f) :=
  concatenate_apply_piece (t := S1024x1792) (1 : Fin 2) [⟨S1024x512, x0⟩, ⟨S1024x512, x1⟩, ⟨S1024x512, x2⟩, ⟨S1024x128, x3⟩, ⟨S1024x128, x4⟩] concatenates_S1024x512_S1024x512_S1024x512_S1024x128_S1024x128_S1024x1792_d1
    (ix2 d (⟨f.val + 1664, by omega⟩ : Fin 1792)) 4 (by show 4 < 5; omega) S1024x128 x4 rfl rfl 1664 rfl (ix2 d f)
    (fun b hb => match b with
      | ⟨0, _⟩ => rfl
      | ⟨1, _⟩ => absurd rfl hb)
    (by show 1664 + f.val = f.val + 1664; omega)

/-- Rounding changes nothing at the extended reals: the row weights are the columns side by side. -/
theorem rowWeights_apply (w : S1024x2840.Idx → EReal) (d f : Fin 1024) : rowWeights (F := Ideal) w (ix2 d f) = rowStack (F := Ideal) w (ix2 d f) := rfl

/-- The transposed weights are the columns side by side, transposed. -/
theorem colWeights_apply (w : S1024x2840.Idx → EReal) (f : Fin 1792) (d : Fin 1024) :
    colWeights (F := Ideal) w (ix2 f d) = colStack (F := Ideal) w (ix2 d f) :=
  transpose_apply _ (colStack (F := Ideal) w) transposes_S1024x1792_S1792x1024_1_0 (ix2 f d) (ix2 d f)
    (fun a => match a with | ⟨0, _⟩ => rfl | ⟨1, _⟩ => rfl)

/-- The row weights of the main keys. -/
theorem rowWeights_mk (w : S1024x2840.Idx → EReal) (d : Fin 1024) (f : Fin 512) :
    rowWeights (F := Ideal) w (ix2 d (⟨f.val + 0, by omega⟩ : Fin 1024)) = w (ix2 d (⟨512 + f.val, by omega⟩ : Fin 2840)) := by
  rw [rowWeights_apply]
  unfold rowStack
  rw [catRow_mk]
  exact extractStridedSlice_apply _ w slices_S1024x2840_S1024x512_0_512 (ix2 d f)
    (ix2 d (⟨512 + f.val, by omega⟩ : Fin 2840)) (fun a => match a with
      | ⟨0, _⟩ => (Nat.zero_add d.val).symm
      | ⟨1, _⟩ => rfl)

/-- The row weights of the compressed keys. -/
theorem rowWeights_kc (w : S1024x2840.Idx → EReal) (d : Fin 1024) (f : Fin 128) :
    rowWeights (F := Ideal) w (ix2 d (⟨f.val + 512, by omega⟩ : Fin 1024)) = w (ix2 d (⟨2048 + f.val, by omega⟩ : Fin 2840)) := by
  rw [rowWeights_apply]
  unfold rowStack
  rw [catRow_kc]
  exact extractStridedSlice_apply _ w slices_S1024x2840_S1024x128_0_2048 (ix2 d f)
    (ix2 d (⟨2048 + f.val, by omega⟩ : Fin 2840)) (fun a => match a with
      | ⟨0, _⟩ => (Nat.zero_add d.val).symm
      | ⟨1, _⟩ => rfl)

/-- The row weights of the compressed values. -/
theorem rowWeights_vc (w : S1024x2840.Idx → EReal) (d : Fin 1024) (f : Fin 128) :
    rowWeights (F := Ideal) w (ix2 d (⟨f.val + 640, by omega⟩ : Fin 1024)) = w (ix2 d (⟨2176 + f.val, by omega⟩ : Fin 2840)) := by
  rw [rowWeights_apply]
  unfold rowStack
  rw [catRow_vc]
  exact extractStridedSlice_apply _ w slices_S1024x2840_S1024x128_0_2176 (ix2 d f)
    (ix2 d (⟨2176 + f.val, by omega⟩ : Fin 2840)) (fun a => match a with
      | ⟨0, _⟩ => (Nat.zero_add d.val).symm
      | ⟨1, _⟩ => rfl)

/-- The row weights of the selected keys. -/
theorem rowWeights_ks (w : S1024x2840.Idx → EReal) (d : Fin 1024) (f : Fin 128) :
    rowWeights (F := Ideal) w (ix2 d (⟨f.val + 768, by omega⟩ : Fin 1024)) = w (ix2 d (⟨2304 + f.val, by omega⟩ : Fin 2840)) := by
  rw [rowWeights_apply]
  unfold rowStack
  rw [catRow_ks]
  exact extractStridedSlice_apply _ w slices_S1024x2840_S1024x128_0_2304 (ix2 d f)
    (ix2 d (⟨2304 + f.val, by omega⟩ : Fin 2840)) (fun a => match a with
      | ⟨0, _⟩ => (Nat.zero_add d.val).symm
      | ⟨1, _⟩ => rfl)

/-- The row weights of the window's keys. -/
theorem rowWeights_kw (w : S1024x2840.Idx → EReal) (d : Fin 1024) (f : Fin 128) :
    rowWeights (F := Ideal) w (ix2 d (⟨f.val + 896, by omega⟩ : Fin 1024)) = w (ix2 d (⟨2560 + f.val, by omega⟩ : Fin 2840)) := by
  rw [rowWeights_apply]
  unfold rowStack
  rw [catRow_kw]
  exact extractStridedSlice_apply _ w slices_S1024x2840_S1024x128_0_2560 (ix2 d f)
    (ix2 d (⟨2560 + f.val, by omega⟩ : Fin 2840)) (fun a => match a with
      | ⟨0, _⟩ => (Nat.zero_add d.val).symm
      | ⟨1, _⟩ => rfl)

/-- The transposed weights of the main queries. -/
theorem colWeights_mq (w : S1024x2840.Idx → EReal) (f : Fin 512) (d : Fin 1024) :
    colWeights (F := Ideal) w (ix2 (⟨f.val + 0, by omega⟩ : Fin 1792) d) = w (ix2 d (⟨0 + f.val, by omega⟩ : Fin 2840)) * qscale := by
  rw [colWeights_apply]
  unfold colStack
  rw [catCol_mq]
  exact congrArg (· * qscale) (extractStridedSlice_apply _ w slices_S1024x2840_S1024x512_0_0 (ix2 d f)
    (ix2 d (⟨0 + f.val, by omega⟩ : Fin 2840)) (fun a => match a with
      | ⟨0, _⟩ => (Nat.zero_add d.val).symm
      | ⟨1, _⟩ => rfl))

/-- The transposed weights of the main values. -/
theorem colWeights_mv (w : S1024x2840.Idx → EReal) (f : Fin 512) (d : Fin 1024) :
    colWeights (F := Ideal) w (ix2 (⟨f.val + 512, by omega⟩ : Fin 1792) d) = w (ix2 d (⟨1024 + f.val, by omega⟩ : Fin 2840)) := by
  rw [colWeights_apply]
  unfold colStack
  rw [catCol_mv]
  exact extractStridedSlice_apply _ w slices_S1024x2840_S1024x512_0_1024 (ix2 d f)
    (ix2 d (⟨1024 + f.val, by omega⟩ : Fin 2840)) (fun a => match a with
      | ⟨0, _⟩ => (Nat.zero_add d.val).symm
      | ⟨1, _⟩ => rfl)

/-- The transposed weights of the other queries. -/
theorem colWeights_nq (w : S1024x2840.Idx → EReal) (f : Fin 512) (d : Fin 1024) :
    colWeights (F := Ideal) w (ix2 (⟨f.val + 1024, by omega⟩ : Fin 1792) d) = w (ix2 d (⟨1536 + f.val, by omega⟩ : Fin 2840)) * qscale := by
  rw [colWeights_apply]
  unfold colStack
  rw [catCol_nq]
  exact congrArg (· * qscale) (extractStridedSlice_apply _ w slices_S1024x2840_S1024x512_0_1536 (ix2 d f)
    (ix2 d (⟨1536 + f.val, by omega⟩ : Fin 2840)) (fun a => match a with
      | ⟨0, _⟩ => (Nat.zero_add d.val).symm
      | ⟨1, _⟩ => rfl))

/-- The transposed weights of the selected values. -/
theorem colWeights_vs (w : S1024x2840.Idx → EReal) (f : Fin 128) (d : Fin 1024) :
    colWeights (F := Ideal) w (ix2 (⟨f.val + 1536, by omega⟩ : Fin 1792) d) = w (ix2 d (⟨2432 + f.val, by omega⟩ : Fin 2840)) := by
  rw [colWeights_apply]
  unfold colStack
  rw [catCol_vs]
  exact extractStridedSlice_apply _ w slices_S1024x2840_S1024x128_0_2432 (ix2 d f)
    (ix2 d (⟨2432 + f.val, by omega⟩ : Fin 2840)) (fun a => match a with
      | ⟨0, _⟩ => (Nat.zero_add d.val).symm
      | ⟨1, _⟩ => rfl)

/-- The transposed weights of the window's values. -/
theorem colWeights_vw (w : S1024x2840.Idx → EReal) (f : Fin 128) (d : Fin 1024) :
    colWeights (F := Ideal) w (ix2 (⟨f.val + 1664, by omega⟩ : Fin 1792) d) = w (ix2 d (⟨2688 + f.val, by omega⟩ : Fin 2840)) := by
  rw [colWeights_apply]
  unfold colStack
  rw [catCol_vw]
  exact extractStridedSlice_apply _ w slices_S1024x2840_S1024x128_0_2688 (ix2 d f)
    (ix2 d (⟨2688 + f.val, by omega⟩ : Fin 2840)) (fun a => match a with
      | ⟨0, _⟩ => (Nat.zero_add d.val).symm
      | ⟨1, _⟩ => rfl)

/-- The gates' weights by group and row, at an element. -/
theorem gateRows_apply (w : S1024x2840.Idx → EReal) (g : Fin 2) (p : Fin 12) (d : Fin 1024) :
    gateRows (F := Ideal) w (ix3 g p d) = w (ix2 d (⟨2816 + g.val * 12 + p.val % 4 * 3 + p.val / 4, by omega⟩ : Fin 2840)) := by
  unfold gateRows
  refine (shapeCast_apply _ shapeCasts_S2x3x4x1024_S2x12x1024 (ix3 g p d)
    (ix4 g (⟨p.val / 4, by omega⟩ : Fin 3) (⟨p.val % 4, by omega⟩ : Fin 4) d) (by
      rw [Shape.rowMajor_val_three, Shape.rowMajor_val_four]
      show ((g.val * 3 + p.val / 4) * 4 + p.val % 4) * 1024 + d.val = (g.val * 12 + p.val) * 1024 + d.val
      omega)).trans ?_
  refine (transpose_apply _ _ transposes_S1024x2x4x3_S2x3x4x1024_1_3_2_0 _
    (ix4 d g (⟨p.val % 4, by omega⟩ : Fin 4) (⟨p.val / 4, by omega⟩ : Fin 3))
    (fun a => match a with | ⟨0, _⟩ => rfl | ⟨1, _⟩ => rfl | ⟨2, _⟩ => rfl | ⟨3, _⟩ => rfl)).trans ?_
  refine (shapeCast_apply _ shapeCasts_S1024x24_S1024x2x4x3 _
    (ix2 d (⟨g.val * 12 + p.val % 4 * 3 + p.val / 4, by omega⟩ : Fin 24)) (by
      rw [Shape.rowMajor_val_two, Shape.rowMajor_val_four]
      show d.val * 24 + (g.val * 12 + p.val % 4 * 3 + p.val / 4) = ((d.val * 2 + g.val) * 4 + p.val % 4) * 3 + p.val / 4
      omega)).trans ?_
  exact extractStridedSlice_apply _ w slices_S1024x2840_S1024x24_0_2816 _ (ix2 d (⟨2816 + g.val * 12 + p.val % 4 * 3 + p.val / 4, by omega⟩ : Fin 2840))
    (fun a => match a with
      | ⟨0, _⟩ => (Nat.zero_add d.val).symm
      | ⟨1, _⟩ => by show 2816 + g.val * 12 + p.val % 4 * 3 + p.val / 4 = 2816 + (g.val * 12 + p.val % 4 * 3 + p.val / 4); omega)

/-- The word zero is the number zero. -/
theorem pad_value (i : S_.Idx) : sitofp (F := Ideal) .f32 (constantI S_ 32 0#32) i = (0 : EReal) := by
  show (((0#32 : BitVec 32).toInt : ℝ) : EReal) = 0
  simp

/-- The gates' weights of a row that holds a gate. -/
theorem gateWeights_inside (w : S1024x2840.Idx → EReal) (R : Fin 32) (d : Fin 1024) (h : R.val % 16 < 12) :
    gateWeights (F := Ideal) w (ix2 R d) = w (ix2 d (gateCol R h)) := by
  unfold gateWeights
  refine (shapeCast_apply _ shapeCasts_S2x16x1024_S32x1024 (ix2 R d)
    (ix3 (⟨R.val / 16, by omega⟩ : Fin 2) (⟨R.val % 16, by omega⟩ : Fin 16) d) (by
      rw [Shape.rowMajor_val_two, Shape.rowMajor_val_three]
      show (R.val / 16 * 16 + R.val % 16) * 1024 + d.val = R.val * 1024 + d.val
      omega)).trans ?_
  refine (pad_apply_of_inside _ _ _ (gateRows (F := Ideal) w) _ pads_S2x12x1024_S2x16x1024_000_040_000 h_S_ _
    (ix3 (⟨R.val / 16, by omega⟩ : Fin 2) (⟨R.val % 16, h⟩ : Fin 12) d) (fun a => ?_)).trans ?_
  · match a with
    | ⟨0, _⟩ => show R.val / 16 = 0 + R.val / 16 * (0 + 1); omega
    | ⟨1, _⟩ => show R.val % 16 = 0 + R.val % 16 * (0 + 1); omega
    | ⟨2, _⟩ => show d.val = 0 + d.val * (0 + 1); omega
  · exact gateRows_apply w _ _ d

/-- The gates' weights of a padding row. -/
theorem gateWeights_outside (w : S1024x2840.Idx → EReal) (R : Fin 32) (d : Fin 1024) (h : ¬R.val % 16 < 12) :
    gateWeights (F := Ideal) w (ix2 R d) = 0 := by
  unfold gateWeights
  refine (shapeCast_apply _ shapeCasts_S2x16x1024_S32x1024 (ix2 R d)
    (ix3 (⟨R.val / 16, by omega⟩ : Fin 2) (⟨R.val % 16, by omega⟩ : Fin 16) d) (by
      rw [Shape.rowMajor_val_two, Shape.rowMajor_val_three]
      show (R.val / 16 * 16 + R.val % 16) * 1024 + d.val = R.val * 1024 + d.val
      omega)).trans ?_
  refine (pad_apply_of_not_inside _ _ _ (gateRows (F := Ideal) w) _ pads_S2x12x1024_S2x16x1024_000_040_000 h_S_ _ (1 : Fin 3) ?_).trans (pad_value _)
  show ¬(0 ≤ R.val % 16 ∧ (R.val % 16 - 0) % (0 + 1) = 0 ∧ (R.val % 16 - 0) / (0 + 1) < 12)
  omega

end Cert.Proof.InProj
-- ==== Proof.InBlocks.lean ====
/- What each grid point of the in-projection stores, element by element, in terms of the arguments: columns of the projection of the
   point's 512 tokens. -/
module

public import proofs.«01_k».proof.Proof.Gen.Kernel2Ideal.Value
public import proofs.«01_k».proof.Proof.InTile
public import proofs.«01_k».proof.Proof.InHost
public import Idealize.ShloMosaic.Lib.Pipeline.ValueKit.Geometry

@[expose] public section

set_option maxRecDepth 16384

noncomputable section

namespace Cert.Proof.InProj

open Cert.Kernel2Ideal Cert.Kernel2Ideal.Gen
open Idealize.ShloMosaic Idealize.ShloMosaic.ValueIdx
open Idealize.ShloMosaic.TcCoe Idealize.ShloMosaic.Tactic
open Idealize.ShloMosaic.Pipeline (Dat Cfg Window)

variable (m : (ℓ : Loc nD τ sig) → Buf (Elt Ideal) ℓ) (c : Dev nD)

/-- The arguments, as functions of plain indices. -/
abbrev inX : S4x8192x1024.Idx → EReal := m (c, Proc.devRef .tc main_arg0)
abbrev inG : S1024.Idx → EReal := m (c, Proc.devRef .tc main_arg1)
abbrev inW : S1024x2840.Idx → EReal := m (c, Proc.devRef .tc main_arg2)

/-- There are 64 points. -/
theorem point_lt (t : Fin cfg0.N) : t.val < 64 :=
  lt_of_lt_of_eq t.isLt (show cfg0.N = 64 from N_0)

/-- A point's sequence, and its tokens. -/
def seqOf (t : Fin cfg0.N) : Fin 4 := ⟨t.val / 16, by have := point_lt t; omega⟩
def tokOf (t : Fin cfg0.N) (r : Fin 512) : Fin 8192 := ⟨t.val % 16 * 512 + r.val, by omega⟩

/-- Window 0's block numbers. -/
theorem index0 : ∀ t : Fin cfg0.N, win0_0.index t = ![t.val / 16, t.val % 16, 0] :=
  (by decide +kernel : ∀ t : Fin grid0.N, win0_0.index t = ![t.val / 16, t.val % 16, 0])

/-- Window 1's block numbers. -/
theorem index1 : ∀ t : Fin cfg0.N, win0_1.index t = ![0, 0] :=
  (by decide +kernel : ∀ t : Fin grid0.N, win0_1.index t = ![0, 0])

/-- Window 2's block numbers. -/
theorem index2 : ∀ t : Fin cfg0.N, win0_2.index t = ![0, 0] :=
  (by decide +kernel : ∀ t : Fin grid0.N, win0_2.index t = ![0, 0])

/-- Window 3's block numbers. -/
theorem index3 : ∀ t : Fin cfg0.N, win0_3.index t = ![0, 0] :=
  (by decide +kernel : ∀ t : Fin grid0.N, win0_3.index t = ![0, 0])

/-- Window 4's block numbers. -/
theorem index4 : ∀ t : Fin cfg0.N, win0_4.index t = ![0, 0] :=
  (by decide +kernel : ∀ t : Fin grid0.N, win0_4.index t = ![0, 0])

/-- Window 5's block numbers. -/
theorem index5 : ∀ t : Fin cfg0.N, win0_5.index t = ![t.val / 16, t.val % 16, 0] :=
  (by decide +kernel : ∀ t : Fin grid0.N, win0_5.index t = ![t.val / 16, t.val % 16, 0])

/-- Window 6's block numbers. -/
theorem index6 : ∀ t : Fin cfg0.N, win0_6.index t = ![t.val / 16, t.val % 16, 0] :=
  (by decide +kernel : ∀ t : Fin grid0.N, win0_6.index t = ![t.val / 16, t.val % 16, 0])

/-- Window 7's block numbers. -/
theorem index7 : ∀ t : Fin cfg0.N, win0_7.index t = ![t.val / 16, t.val % 16, 0] :=
  (by decide +kernel : ∀ t : Fin grid0.N, win0_7.index t = ![t.val / 16, t.val % 16, 0])

/-- Window 8's block numbers. -/
theorem index8 : ∀ t : Fin cfg0.N, win0_8.index t = ![t.val / 16, t.val % 16, 0] :=
  (by decide +kernel : ∀ t : Fin grid0.N, win0_8.index t = ![t.val / 16, t.val % 16, 0])

/-- Window 9's block numbers. -/
theorem index9 : ∀ t : Fin cfg0.N, win0_9.index t = ![t.val / 16, t.val % 16, 0] :=
  (by decide +kernel : ∀ t : Fin grid0.N, win0_9.index t = ![t.val / 16, t.val % 16, 0])

/-- Window 10's block numbers. -/
theorem index10 : ∀ t : Fin cfg0.N, win0_10.index t = ![t.val / 16, 0, t.val % 16] :=
  (by decide +kernel : ∀ t : Fin grid0.N, win0_10.index t = ![t.val / 16, 0, t.val % 16])

/-- Window 11's block numbers. -/
theorem index11 : ∀ t : Fin cfg0.N, win0_11.index t = ![t.val / 16, 0, t.val % 16] :=
  (by decide +kernel : ∀ t : Fin grid0.N, win0_11.index t = ![t.val / 16, 0, t.val % 16])

/-- Window 12's block numbers. -/
theorem index12 : ∀ t : Fin cfg0.N, win0_12.index t = ![t.val / 16, 0, t.val % 16] :=
  (by decide +kernel : ∀ t : Fin grid0.N, win0_12.index t = ![t.val / 16, 0, t.val % 16])

/-- Window 13's block numbers. -/
theorem index13 : ∀ t : Fin cfg0.N, win0_13.index t = ![t.val / 16, 0, t.val % 16] :=
  (by decide +kernel : ∀ t : Fin grid0.N, win0_13.index t = ![t.val / 16, 0, t.val % 16])

/-- Window 14's block numbers. -/
theorem index14 : ∀ t : Fin cfg0.N, win0_14.index t = ![t.val / 16, 0, t.val % 16] :=
  (by decide +kernel : ∀ t : Fin grid0.N, win0_14.index t = ![t.val / 16, 0, t.val % 16])

/-- Window 15's block numbers. -/
theorem index15 : ∀ t : Fin cfg0.N, win0_15.index t = ![t.val / 16, 0, t.val % 16] :=
  (by decide +kernel : ∀ t : Fin grid0.N, win0_15.index t = ![t.val / 16, 0, t.val % 16])

/-- A point's tokens, as it loads them. -/
theorem load_tokens (t : Fin cfg0.N) (r : Fin 512) (k : Fin 1024) :
    View.ld (iblk m c 0 t : S1x512x1024.Idx → EReal) r0_0 (ix3 (0 : Fin 1) r k) = inX m c (ix3 (seqOf t) (tokOf t r) k) := by
  refine Eq.trans ?_ (congrFun (V_main_arg0 m c) (ix3 (seqOf t) (tokOf t r) k))
  refine congrArg (V m c main_arg0 : S4x8192x1024.Idx → EReal) (funext fun a => Fin.ext ?_)
  match a with
  | ⟨0, _⟩ =>
    show win0_0.index t 0 * 1 + 1 * (0 + 1 * 0) = t.val / 16
    rw [index0]
    show t.val / 16 * 1 + 1 * (0 + 1 * 0) = t.val / 16
    omega
  | ⟨1, _⟩ =>
    show win0_0.index t 1 * 512 + 1 * (0 + 1 * r.val) = t.val % 16 * 512 + r.val
    rw [index0]
    show t.val % 16 * 512 + 1 * (0 + 1 * r.val) = t.val % 16 * 512 + r.val
    omega
  | ⟨2, _⟩ =>
    show win0_0.index t 2 * 1024 + 1 * (0 + 1 * k.val) = k.val
    rw [index0]
    show 0 * 1024 + 1 * (0 + 1 * k.val) = k.val
    omega

/-- The channels' weights, as a point loads them. -/
theorem load_norm (t : Fin cfg0.N) (k : Fin 1024) :
    View.ld (iblk m c 1 t : S1x1024.Idx → EReal) r0_1 (ix2 (0 : Fin 1) k) = inG m c (ix1 k) := by
  refine Eq.trans ?_ ((congrFun (start_norm m c) (ix2 (0 : Fin 1) k)).trans (norm_apply (inG m c) 0 k))
  refine congrArg (V m c main_v25 : S1x1024.Idx → EReal) (funext fun q => Fin.ext ?_)
  match q with
  | ⟨0, _⟩ =>
    show win0_1.index t 0 * 1 + 1 * (0 + 1 * ((0 : Fin 1)).val) = ((0 : Fin 1)).val
    rw [index1]
    show 0 * 1 + 1 * (0 + 1 * ((0 : Fin 1)).val) = ((0 : Fin 1)).val
    omega
  | ⟨1, _⟩ =>
    show win0_1.index t 1 * 1024 + 1 * (0 + 1 * (k).val) = (k).val
    rw [index1]
    show 0 * 1024 + 1 * (0 + 1 * (k).val) = (k).val
    omega

/-- The row weights, as a point loads them. -/
theorem load_row (t : Fin cfg0.N) (d f : Fin 1024) :
    View.ld (iblk m c 2 t : S1024x1024.Idx → EReal) r0_2 (ix2 d f) = rowWeights (F := Ideal) (inW m c) (ix2 d f) := by
  refine Eq.trans ?_ (congrFun (start_row m c) (ix2 d f))
  refine congrArg (V m c main_v12 : S1024x1024.Idx → EReal) (funext fun q => Fin.ext ?_)
  match q with
  | ⟨0, _⟩ =>
    show win0_2.index t 0 * 1024 + 1 * (0 + 1 * (d).val) = (d).val
    rw [index2]
    show 0 * 1024 + 1 * (0 + 1 * (d).val) = (d).val
    omega
  | ⟨1, _⟩ =>
    show win0_2.index t 1 * 1024 + 1 * (0 + 1 * (f).val) = (f).val
    rw [index2]
    show 0 * 1024 + 1 * (0 + 1 * (f).val) = (f).val
    omega

/-- The transposed weights, as a point loads them. -/
theorem load_col (t : Fin cfg0.N) (f : Fin 1792) (d : Fin 1024) :
    View.ld (iblk m c 3 t : S1792x1024.Idx → EReal) r0_5 (ix2 f d) = colWeights (F := Ideal) (inW m c) (ix2 f d) := by
  refine Eq.trans ?_ (congrFun (start_col m c) (ix2 f d))
  refine congrArg (V m c main_v19 : S1792x1024.Idx → EReal) (funext fun q => Fin.ext ?_)
  match q with
  | ⟨0, _⟩ =>
    show win0_3.index t 0 * 1792 + 1 * (0 + 1 * (f).val) = (f).val
    rw [index3]
    show 0 * 1792 + 1 * (0 + 1 * (f).val) = (f).val
    omega
  | ⟨1, _⟩ =>
    show win0_3.index t 1 * 1024 + 1 * (0 + 1 * (d).val) = (d).val
    rw [index3]
    show 0 * 1024 + 1 * (0 + 1 * (d).val) = (d).val
    omega

/-- The gates' weights, as a point loads them. -/
theorem load_gate (t : Fin cfg0.N) (f : Fin 32) (d : Fin 1024) :
    View.ld (iblk m c 4 t : S32x1024.Idx → EReal) r0_7 (ix2 f d) = gateWeights (F := Ideal) (inW m c) (ix2 f d) := by
  refine Eq.trans ?_ (congrFun (start_gate m c) (ix2 f d))
  refine congrArg (V m c main_v24 : S32x1024.Idx → EReal) (funext fun q => Fin.ext ?_)
  match q with
  | ⟨0, _⟩ =>
    show win0_4.index t 0 * 32 + 1 * (0 + 1 * (f).val) = (f).val
    rw [index4]
    show 0 * 32 + 1 * (0 + 1 * (f).val) = (f).val
    omega
  | ⟨1, _⟩ =>
    show win0_4.index t 1 * 1024 + 1 * (0 + 1 * (d).val) = (d).val
    rw [index4]
    show 0 * 1024 + 1 * (0 + 1 * (d).val) = (d).val
    omega

/-- A point's loads. -/
abbrev lx (t : Fin cfg0.N) : S1x512x1024.Idx → EReal := View.ld (iblk m c 0 t : S1x512x1024.Idx → EReal) r0_0
abbrev lg (t : Fin cfg0.N) : S1x1024.Idx → EReal := View.ld (iblk m c 1 t : S1x1024.Idx → EReal) r0_1
abbrev lr (t : Fin cfg0.N) : S1024x1024.Idx → EReal := View.ld (iblk m c 2 t : S1024x1024.Idx → EReal) r0_2
abbrev lc (t : Fin cfg0.N) : S1792x1024.Idx → EReal := View.ld (iblk m c 3 t : S1792x1024.Idx → EReal) r0_5
abbrev lw (t : Fin cfg0.N) : S32x1024.Idx → EReal := View.ld (iblk m c 4 t : S32x1024.Idx → EReal) r0_7

/-- A column of a point's tokens, for weights given by columns. -/
theorem column_loads (t : Fin cfg0.N) (r : Fin 512) (u v : Fin 1024 → EReal) (h : ∀ d, u d = v d) :
    column (fun k => lx m c t (ix3 (0 : Fin 1) r k)) (fun k => lg m c t (ix2 (0 : Fin 1) k)) u
      = column (fun k => inX m c (ix3 (seqOf t) (tokOf t r) k)) (fun k => inG m c (ix1 k)) v := by
  rw [show (fun k => lx m c t (ix3 (0 : Fin 1) r k)) = fun k => inX m c (ix3 (seqOf t) (tokOf t r) k) from funext fun k => load_tokens m c t r k,
    show (fun k => lg m c t (ix2 (0 : Fin 1) k)) = fun k => inG m c (ix1 k) from funext fun k => load_norm m c t k, funext h]

/-- A product kept by rows is a column of the projection. -/
theorem row_block (t : Fin cfg0.N) (r : Fin 512) (f : Fin 1024) (j : Fin 2840)
    (h : ∀ d, rowWeights (F := Ideal) (inW m c) (ix2 d f) = inW m c (ix2 d j)) :
    k0_pay5 (F := Ideal) (lx m c t) (lg m c t) (lr m c t) (ix2 r f) = proj (inX m c) (inG m c) (inW m c) (seqOf t) (tokOf t r) j :=
  (rowProduct_apply (lx m c t) (lg m c t) (lr m c t) r f).trans
    (column_loads m c t r _ _ fun d => (load_row m c t d f).trans (h d))

/-- A product kept transposed is a column of the projection. -/
theorem col_block (t : Fin cfg0.N) (f : Fin 1792) (r : Fin 512) (j : Fin 2840)
    (h : ∀ d, colWeights (F := Ideal) (inW m c) (ix2 f d) = inW m c (ix2 d j)) :
    k0_pay11 (F := Ideal) (k0_pay4 (F := Ideal) (lx m c t) (lg m c t)) (lc m c t) (ix2 f r)
      = proj (inX m c) (inG m c) (inW m c) (seqOf t) (tokOf t r) j :=
  (colProduct_apply (lx m c t) (lg m c t) (lc m c t) f r).trans
    (column_loads m c t r _ _ fun d => (load_col m c t f d).trans (h d))

/-- The same of the queries, whose weights are scaled. -/
theorem col_block_scaled (t : Fin cfg0.N) (f : Fin 1792) (r : Fin 512) (j : Fin 2840)
    (h : ∀ d, colWeights (F := Ideal) (inW m c) (ix2 f d) = inW m c (ix2 d j) * qscale) :
    k0_pay11 (F := Ideal) (k0_pay4 (F := Ideal) (lx m c t) (lg m c t)) (lc m c t) (ix2 f r)
      = proj (inX m c) (inG m c) (inW m c) (seqOf t) (tokOf t r) j * qscale :=
  ((colProduct_apply (lx m c t) (lg m c t) (lc m c t) f r).trans
    (column_loads m c t r _ _ fun d => (load_col m c t f d).trans (h d))).trans (column_scaled _ _ _)

/-- A block of the gates. -/
theorem gate_block (t : Fin cfg0.N) (R : Fin 32) (r : Fin 512) (z : Fin 1) :
    k0_pay2 (F := Ideal) (k0_pay3 (F := Ideal) (lx m c t) (lg m c t)) (lw m c t) (ix3 z R r)
      = Ideal.logistic (gate (inX m c) (inG m c) (inW m c) (seqOf t) R (tokOf t r)) := by
  refine (gates_apply (lx m c t) (lg m c t) (lw m c t) R r z).trans (congrArg Ideal.logistic ?_)
  unfold gate
  split
  · rename_i h
    exact column_loads m c t r _ _ fun d => (load_gate m c t R d).trans (gateWeights_inside (inW m c) R d h)
  · rename_i h
    exact (column_loads m c t r _ (fun _ => 0) fun d => (load_gate m c t R d).trans (gateWeights_outside (inW m c) R d h)).trans (column_zero _ _)

/-- The main keys a point stores. -/
theorem out5 (t : Fin cfg0.N) (z : Fin 1) (r : Fin 512) (f : Fin 512) :
    out0_5 (F := Ideal) (iblk m c 0 t) (iblk m c 1 t) (iblk m c 2 t) (iblk m c 3 t) (iblk m c 4 t) (ix3 z r f)
      = proj (inX m c) (inG m c) (inW m c) (seqOf t) (tokOf t r) (⟨512 + f.val, by omega⟩ : Fin 2840) := by
  unfold out0_5
  refine (Value.canon5_eq (F := Ideal) (lx m c t) (lg m c t) (lr m c t) (ix3 z r f)).trans ?_
  refine Eq.trans (congrArg (k0_pay5 (F := Ideal) (lx m c t) (lg m c t) (lr m c t)) (funext fun a => ?_))
    (row_block m c t r (⟨f.val + 0, by omega⟩ : Fin 1024) _ fun d => rowWeights_mk (inW m c) d f)
  match a with
  | ⟨0, _⟩ => rfl
  | ⟨1, _⟩ => rfl

/-- The compressed keys a point stores. -/
theorem out6 (t : Fin cfg0.N) (z : Fin 1) (r : Fin 512) (f : Fin 128) :
    out0_6 (F := Ideal) (iblk m c 0 t) (iblk m c 1 t) (iblk m c 2 t) (iblk m c 3 t) (iblk m c 4 t) (ix3 z r f)
      = proj (inX m c) (inG m c) (inW m c) (seqOf t) (tokOf t r) (⟨2048 + f.val, by omega⟩ : Fin 2840) := by
  unfold out0_6
  refine (Value.canon6_eq (F := Ideal) (lx m c t) (lg m c t) (lr m c t) (ix3 z r f)).trans ?_
  refine Eq.trans (congrArg (k0_pay5 (F := Ideal) (lx m c t) (lg m c t) (lr m c t)) (funext fun a => ?_))
    (row_block m c t r (⟨f.val + 512, by omega⟩ : Fin 1024) _ fun d => rowWeights_kc (inW m c) d f)
  match a with
  | ⟨0, _⟩ => rfl
  | ⟨1, _⟩ => rfl

/-- The compressed values a point stores. -/
theorem out7 (t : Fin cfg0.N) (z : Fin 1) (r : Fin 512) (f : Fin 128) :
    out0_7 (F := Ideal) (iblk m c 0 t) (iblk m c 1 t) (iblk m c 2 t) (iblk m c 3 t) (iblk m c 4 t) (ix3 z r f)
      = proj (inX m c) (inG m c) (inW m c) (seqOf t) (tokOf t r) (⟨2176 + f.val, by omega⟩ : Fin 2840) := by
  unfold out0_7
  refine (Value.canon7_eq (F := Ideal) (lx m c t) (lg m c t) (lr m c t) (ix3 z r f)).trans ?_
  refine Eq.trans (congrArg (k0_pay5 (F := Ideal) (lx m c t) (lg m c t) (lr m c t)) (funext fun a => ?_))
    (row_block m c t r (⟨f.val + 640, by omega⟩ : Fin 1024) _ fun d => rowWeights_vc (inW m c) d f)
  match a with
  | ⟨0, _⟩ => rfl
  | ⟨1, _⟩ => rfl

/-- The selected keys a point stores. -/
theorem out8 (t : Fin cfg0.N) (z : Fin 1) (r : Fin 512) (f : Fin 128) :
    out0_8 (F := Ideal) (iblk m c 0 t) (iblk m c 1 t) (iblk m c 2 t) (iblk m c 3 t) (iblk m c 4 t) (ix3 z r f)
      = proj (inX m c) (inG m c) (inW m c) (seqOf t) (tokOf t r) (⟨2304 + f.val, by omega⟩ : Fin 2840) := by
  unfold out0_8
  refine (Value.canon8_eq (F := Ideal) (lx m c t) (lg m c t) (lr m c t) (ix3 z r f)).trans ?_
  refine Eq.trans (congrArg (k0_pay5 (F := Ideal) (lx m c t) (lg m c t) (lr m c t)) (funext fun a => ?_))
    (row_block m c t r (⟨f.val + 768, by omega⟩ : Fin 1024) _ fun d => rowWeights_ks (inW m c) d f)
  match a with
  | ⟨0, _⟩ => rfl
  | ⟨1, _⟩ => rfl

/-- The window's keys a point stores. -/
theorem out9 (t : Fin cfg0.N) (z : Fin 1) (r : Fin 512) (f : Fin 128) :
    out0_9 (F := Ideal) (iblk m c 0 t) (iblk m c 1 t) (iblk m c 2 t) (iblk m c 3 t) (iblk m c 4 t) (ix3 z r f)
      = proj (inX m c) (inG m c) (inW m c) (seqOf t) (tokOf t r) (⟨2560 + f.val, by omega⟩ : Fin 2840) := by
  unfold out0_9
  refine (Value.canon9_eq (F := Ideal) (lx m c t) (lg m c t) (lr m c t) (ix3 z r f)).trans ?_
  refine Eq.trans (congrArg (k0_pay5 (F := Ideal) (lx m c t) (lg m c t) (lr m c t)) (funext fun a => ?_))
    (row_block m c t r (⟨f.val + 896, by omega⟩ : Fin 1024) _ fun d => rowWeights_kw (inW m c) d f)
  match a with
  | ⟨0, _⟩ => rfl
  | ⟨1, _⟩ => rfl

/-- The main queries a point stores, transposed, scaled. -/
theorem out10 (t : Fin cfg0.N) (z : Fin 1) (f : Fin 512) (r : Fin 512) :
    out0_10 (F := Ideal) (iblk m c 0 t) (iblk m c 1 t) (iblk m c 2 t) (iblk m c 3 t) (iblk m c 4 t) (ix3 z f r)
      = proj (inX m c) (inG m c) (inW m c) (seqOf t) (tokOf t r) (⟨0 + f.val, by omega⟩ : Fin 2840) * qscale := by
  unfold out0_10
  refine (Value.canon10_eq (F := Ideal) (lx m c t) (lg m c t) (lc m c t) (ix3 z f r)).trans ?_
  refine Eq.trans (congrArg (k0_pay11 (F := Ideal) (k0_pay4 (F := Ideal) (lx m c t) (lg m c t)) (lc m c t)) (funext fun a => ?_))
    (col_block_scaled m c t (⟨f.val + 0, by omega⟩ : Fin 1792) r _ fun d => colWeights_mq (inW m c) f d)
  match a with
  | ⟨0, _⟩ => rfl
  | ⟨1, _⟩ => rfl

/-- The main values a point stores, transposed. -/
theorem out11 (t : Fin cfg0.N) (z : Fin 1) (f : Fin 512) (r : Fin 512) :
    out0_11 (F := Ideal) (iblk m c 0 t) (iblk m c 1 t) (iblk m c 2 t) (iblk m c 3 t) (iblk m c 4 t) (ix3 z f r)
      = proj (inX m c) (inG m c) (inW m c) (seqOf t) (tokOf t r) (⟨1024 + f.val, by omega⟩ : Fin 2840) := by
  unfold out0_11
  refine (Value.canon11_eq (F := Ideal) (lx m c t) (lg m c t) (lc m c t) (ix3 z f r)).trans ?_
  refine Eq.trans (congrArg (k0_pay11 (F := Ideal) (k0_pay4 (F := Ideal) (lx m c t) (lg m c t)) (lc m c t)) (funext fun a => ?_))
    (col_block m c t (⟨f.val + 512, by omega⟩ : Fin 1792) r _ fun d => colWeights_mv (inW m c) f d)
  match a with
  | ⟨0, _⟩ => rfl
  | ⟨1, _⟩ => rfl

/-- The other queries a point stores, transposed, scaled. -/
theorem out12 (t : Fin cfg0.N) (z : Fin 1) (f : Fin 512) (r : Fin 512) :
    out0_12 (F := Ideal) (iblk m c 0 t) (iblk m c 1 t) (iblk m c 2 t) (iblk m c 3 t) (iblk m c 4 t) (ix3 z f r)
      = proj (inX m c) (inG m c) (inW m c) (seqOf t) (tokOf t r) (⟨1536 + f.val, by omega⟩ : Fin 2840) * qscale := by
  unfold out0_12
  refine (Value.canon12_eq (F := Ideal) (lx m c t) (lg m c t) (lc m c t) (ix3 z f r)).trans ?_
  refine Eq.trans (congrArg (k0_pay11 (F := Ideal) (k0_pay4 (F := Ideal) (lx m c t) (lg m c t)) (lc m c t)) (funext fun a => ?_))
    (col_block_scaled m c t (⟨f.val + 1024, by omega⟩ : Fin 1792) r _ fun d => colWeights_nq (inW m c) f d)
  match a with
  | ⟨0, _⟩ => rfl
  | ⟨1, _⟩ => rfl

/-- The selected values a point stores, transposed. -/
theorem out13 (t : Fin cfg0.N) (z : Fin 1) (f : Fin 128) (r : Fin 512) :
    out0_13 (F := Ideal) (iblk m c 0 t) (iblk m c 1 t) (iblk m c 2 t) (iblk m c 3 t) (iblk m c 4 t) (ix3 z f r)
      = proj (inX m c) (inG m c) (inW m c) (seqOf t) (tokOf t r) (⟨2432 + f.val, by omega⟩ : Fin 2840) := by
  unfold out0_13
  refine (Value.canon13_eq (F := Ideal) (lx m c t) (lg m c t) (lc m c t) (ix3 z f r)).trans ?_
  refine Eq.trans (congrArg (k0_pay11 (F := Ideal) (k0_pay4 (F := Ideal) (lx m c t) (lg m c t)) (lc m c t)) (funext fun a => ?_))
    (col_block m c t (⟨f.val + 1536, by omega⟩ : Fin 1792) r _ fun d => colWeights_vs (inW m c) f d)
  match a with
  | ⟨0, _⟩ => rfl
  | ⟨1, _⟩ => rfl

/-- The window's values a point stores, transposed. -/
theorem out14 (t : Fin cfg0.N) (z : Fin 1) (f : Fin 128) (r : Fin 512) :
    out0_14 (F := Ideal) (iblk m c 0 t) (iblk m c 1 t) (iblk m c 2 t) (iblk m c 3 t) (iblk m c 4 t) (ix3 z f r)
      = proj (inX m c) (inG m c) (inW m c) (seqOf t) (tokOf t r) (⟨2688 + f.val, by omega⟩ : Fin 2840) := by
  unfold out0_14
  refine (Value.canon14_eq (F := Ideal) (lx m c t) (lg m c t) (lc m c t) (ix3 z f r)).trans ?_
  refine Eq.trans (congrArg (k0_pay11 (F := Ideal) (k0_pay4 (F := Ideal) (lx m c t) (lg m c t)) (lc m c t)) (funext fun a => ?_))
    (col_block m c t (⟨f.val + 1664, by omega⟩ : Fin 1792) r _ fun d => colWeights_vw (inW m c) f d)
  match a with
  | ⟨0, _⟩ => rfl
  | ⟨1, _⟩ => rfl

/-- The gates a point stores. -/
theorem out15 (t : Fin cfg0.N) (z : Fin 1) (R : Fin 32) (r : Fin 512) :
    out0_15 (F := Ideal) (iblk m c 0 t) (iblk m c 1 t) (iblk m c 2 t) (iblk m c 3 t) (iblk m c 4 t) (ix3 z R r)
      = Ideal.logistic (gate (inX m c) (inG m c) (inW m c) (seqOf t) R (tokOf t r)) := by
  unfold out0_15
  refine Eq.trans ?_ (gate_block m c t R r z)
  refine View.canon_apply_of_pieces (Val := Elt Ideal) (S := S1x32x512) (e := EltTy.f32) (k0_pay2 (F := Ideal) (k0_pay3 (F := Ideal) (lx m c t) (lg m c t)) (lw m c t)) _ ?_ (ix3 z R r) (cover0_15 _ (ix3 z R r))
  intro pc hpc
  rcases List.mem_cons.mp hpc with rfl | hpc
  · intro y
    refine congrArg (k0_pay2 (F := Ideal) (k0_pay3 (F := Ideal) (lx m c t) (lg m c t)) (lw m c t)) (funext fun a => Fin.ext ?_)
    match a with
    | ⟨0, _⟩ => show (y 0).val = 0 + 1 * (y 0).val; omega
    | ⟨1, _⟩ => show (y 1).val = 0 + 1 * (y 1).val; omega
    | ⟨2, _⟩ => show (y 2).val = 0 + 1 * (y 2).val; omega
  nomatch hpc

end Cert.Proof.InProj
-- ==== Proof.InReference.lean ====
/- The reference of the in-projection at the extended reals, element by element: every result is a column of the projection of a
   normalized token — of the queries scaled, of the gates passed through the sigmoid. -/
module

public import proofs.«01_k».proof.Proof.Gen.Reference2Ideal.Read
public import proofs.«01_k».proof.Proof.InPlain
public import Idealize.ShloMosaic.Lib.KernelVsHost

@[expose] public section

set_option maxRecDepth 16384

noncomputable section

namespace Cert.Proof.InProj

open Cert.Reference2Ideal Cert.Reference2Ideal.Gen Cert.Reference2Ideal.Read
open Idealize.ShloMosaic Idealize.ShloMosaic.ValueIdx

variable (x : S4x8192x1024.Idx → EReal) (g : S1024.Idx → EReal) (w : S1024x2840.Idx → EReal)

/-- The sum of a token's squares. -/
theorem ref_squares (i : S4x8192.Idx) :
    val_main_v1 (F := Ideal) x i = ∑ k : Fin 1024, x (ix3 (i 0) (i 1) k) * x (ix3 (i 0) (i 1) k) := by
  rw [val_main_v1_apply, val_main_cst_apply]
  refine (congrArg₂ (· + ·) Ideal.ofBits_zero_f32 (Finset.sum_congr rfl fun k _ => ?_)).trans (zero_add _)
  rw [val_main_v0_apply]
  have e : idx_main_v1 i k = (ix3 (i 0) (i 1) k : S4x8192x1024.Idx) := funext fun a => match a with
    | ⟨0, _⟩ => rfl
    | ⟨1, _⟩ => rfl
    | ⟨2, _⟩ => rfl
  rw [e]
  rfl

/-- The normalized tokens. -/
theorem ref_normed (b : Fin 4) (s : Fin 8192) (d : Fin 1024) :
    val_main_v12 (F := Ideal) x g (ix3 b s d) = normed (fun k => x (ix3 b s k)) (fun k => g (ix1 k)) d := by
  rw [val_main_v12_apply, val_main_v9_apply, val_main_v11_apply, val_main_v10_apply, val_main_v8_apply, val_main_v7_apply, val_main_v6_apply,
    val_main_v4_apply, val_main_v5_apply, val_main_cst_1_apply, val_main_v3_apply, val_main_cst_0_apply, val_main_v2_apply, ref_squares]
  refine congrArg₂ (· * ·) rfl (congrArg g (funext fun a => match a with | ⟨0, _⟩ => rfl))

/-- The whole projection. -/
theorem ref_proj (b : Fin 4) (s : Fin 8192) (j : Fin 2840) : val_main_v13 (F := Ideal) x g w (ix3 b s j) = proj x g w b s j := by
  rw [val_main_v13_apply]
  unfold proj column
  refine Finset.sum_congr rfl fun k _ => congrArg₂ (· * ·) ?_ ?_
  · refine Eq.trans (congrArg (val_main_v12 (F := Ideal) x g) (funext fun a => ?_)) (ref_normed x g b s k)
    match a with
    | ⟨0, _⟩ => rfl
    | ⟨1, _⟩ => rfl
    | ⟨2, _⟩ => rfl
  · refine congrArg w (funext fun a => ?_)
    match a with
    | ⟨0, _⟩ => rfl
    | ⟨1, _⟩ => rfl

/-- The main keys. -/
theorem ref_v39 (b : Fin 4) (s : Fin 8192) (f : Fin 512) :
    val_main_v39 (F := Ideal) x g w (ix3 b s f) = proj x g w b s (⟨512 + f.val, by omega⟩ : Fin 2840) := by
  rw [val_main_v39_apply, val_main_v15_apply]
  refine Eq.trans (congrArg (val_main_v13 (F := Ideal) x g w) (funext fun a => ?_)) (ref_proj x g w b s _)
  match a with
  | ⟨0, _⟩ => rfl
  | ⟨1, _⟩ => rfl
  | ⟨2, _⟩ => rfl

/-- The compressed keys. -/
theorem ref_v40 (b : Fin 4) (s : Fin 8192) (f : Fin 128) :
    val_main_v40 (F := Ideal) x g w (ix3 b s f) = proj x g w b s (⟨2048 + f.val, by omega⟩ : Fin 2840) := by
  rw [val_main_v40_apply, val_main_v18_apply]
  refine Eq.trans (congrArg (val_main_v13 (F := Ideal) x g w) (funext fun a => ?_)) (ref_proj x g w b s _)
  match a with
  | ⟨0, _⟩ => rfl
  | ⟨1, _⟩ => rfl
  | ⟨2, _⟩ => rfl

/-- The compressed values. -/
theorem ref_v41 (b : Fin 4) (s : Fin 8192) (f : Fin 128) :
    val_main_v41 (F := Ideal) x g w (ix3 b s f) = proj x g w b s (⟨2176 + f.val, by omega⟩ : Fin 2840) := by
  rw [val_main_v41_apply, val_main_v19_apply]
  refine Eq.trans (congrArg (val_main_v13 (F := Ideal) x g w) (funext fun a => ?_)) (ref_proj x g w b s _)
  match a with
  | ⟨0, _⟩ => rfl
  | ⟨1, _⟩ => rfl
  | ⟨2, _⟩ => rfl

/-- The selected keys. -/
theorem ref_v42 (b : Fin 4) (s : Fin 8192) (f : Fin 128) :
    val_main_v42 (F := Ideal) x g w (ix3 b s f) = proj x g w b s (⟨2304 + f.val, by omega⟩ : Fin 2840) := by
  rw [val_main_v42_apply, val_main_v20_apply]
  refine Eq.trans (congrArg (val_main_v13 (F := Ideal) x g w) (funext fun a => ?_)) (ref_proj x g w b s _)
  match a with
  | ⟨0, _⟩ => rfl
  | ⟨1, _⟩ => rfl
  | ⟨2, _⟩ => rfl

/-- The window's keys. -/
theorem ref_v43 (b : Fin 4) (s : Fin 8192) (f : Fin 128) :
    val_main_v43 (F := Ideal) x g w (ix3 b s f) = proj x g w b s (⟨2560 + f.val, by omega⟩ : Fin 2840) := by
  rw [val_main_v43_apply, val_main_v22_apply]
  refine Eq.trans (congrArg (val_main_v13 (F := Ideal) x g w) (funext fun a => ?_)) (ref_proj x g w b s _)
  match a with
  | ⟨0, _⟩ => rfl
  | ⟨1, _⟩ => rfl
  | ⟨2, _⟩ => rfl

/-- The main values, transposed. -/
theorem ref_v45 (b : Fin 4) (f : Fin 512) (s : Fin 8192) :
    val_main_v45 (F := Ideal) x g w (ix3 b f s) = proj x g w b s (⟨1024 + f.val, by omega⟩ : Fin 2840) := by
  rw [val_main_v45_apply, val_main_v33_apply, val_main_v16_apply]
  refine Eq.trans (congrArg (val_main_v13 (F := Ideal) x g w) (funext fun a => ?_)) (ref_proj x g w b s _)
  match a with
  | ⟨0, _⟩ => rfl
  | ⟨1, _⟩ => rfl
  | ⟨2, _⟩ => rfl

/-- The selected values, transposed. -/
theorem ref_v47 (b : Fin 4) (f : Fin 128) (s : Fin 8192) :
    val_main_v47 (F := Ideal) x g w (ix3 b f s) = proj x g w b s (⟨2432 + f.val, by omega⟩ : Fin 2840) := by
  rw [val_main_v47_apply, val_main_v37_apply, val_main_v21_apply]
  refine Eq.trans (congrArg (val_main_v13 (F := Ideal) x g w) (funext fun a => ?_)) (ref_proj x g w b s _)
  match a with
  | ⟨0, _⟩ => rfl
  | ⟨1, _⟩ => rfl
  | ⟨2, _⟩ => rfl

/-- The window's values, transposed. -/
theorem ref_v48 (b : Fin 4) (f : Fin 128) (s : Fin 8192) :
    val_main_v48 (F := Ideal) x g w (ix3 b f s) = proj x g w b s (⟨2688 + f.val, by omega⟩ : Fin 2840) := by
  rw [val_main_v48_apply, val_main_v38_apply, val_main_v23_apply]
  refine Eq.trans (congrArg (val_main_v13 (F := Ideal) x g w) (funext fun a => ?_)) (ref_proj x g w b s _)
  match a with
  | ⟨0, _⟩ => rfl
  | ⟨1, _⟩ => rfl
  | ⟨2, _⟩ => rfl

/-- The main queries, scaled and transposed. -/
theorem ref_v44 (b : Fin 4) (f : Fin 512) (s : Fin 8192) :
    val_main_v44 (F := Ideal) x g w (ix3 b f s) = proj x g w b s (⟨0 + f.val, by omega⟩ : Fin 2840) * qscale := by
  rw [val_main_v44_apply, val_main_v32_apply, val_main_v31_apply, val_main_v30_apply, val_main_cst_2_apply, val_main_v14_apply]
  refine congrArg (· * qscale) (Eq.trans (congrArg (val_main_v13 (F := Ideal) x g w) (funext fun a => ?_)) (ref_proj x g w b s _))
  match a with
  | ⟨0, _⟩ => rfl
  | ⟨1, _⟩ => rfl
  | ⟨2, _⟩ => exact Fin.ext (Nat.zero_add f.val).symm

/-- The other queries, scaled and transposed. -/
theorem ref_v46 (b : Fin 4) (f : Fin 512) (s : Fin 8192) :
    val_main_v46 (F := Ideal) x g w (ix3 b f s) = proj x g w b s (⟨1536 + f.val, by omega⟩ : Fin 2840) * qscale := by
  rw [val_main_v46_apply, val_main_v36_apply, val_main_v35_apply, val_main_v34_apply, val_main_cst_3_apply, val_main_v17_apply]
  refine congrArg (· * qscale) (Eq.trans (congrArg (val_main_v13 (F := Ideal) x g w) (funext fun a => ?_)) (ref_proj x g w b s _))
  match a with
  | ⟨0, _⟩ => rfl
  | ⟨1, _⟩ => rfl
  | ⟨2, _⟩ => rfl

/-- The gates' columns by group and row, a group's 12 rows branch by branch. -/
theorem ref_gateRows (b : Fin 4) (q : Fin 2) (p : Fin 12) (s : Fin 8192) :
    val_main_v27 (F := Ideal) x g w (ix4 b q p s) = proj x g w b s (⟨2816 + q.val * 12 + p.val % 4 * 3 + p.val / 4, by omega⟩ : Fin 2840) := by
  unfold val_main_v27
  refine (shapeCast_apply _ shapeCasts_S4x2x3x4x8192_S4x2x12x8192 (ix4 b q p s)
    (ix5 b q (⟨p.val / 4, by omega⟩ : Fin 3) (⟨p.val % 4, by omega⟩ : Fin 4) s) (by
      rw [Shape.rowMajor_val_four, Shape.rowMajor_val_five]
      show (((b.val * 2 + q.val) * 3 + p.val / 4) * 4 + p.val % 4) * 8192 + s.val = ((b.val * 2 + q.val) * 12 + p.val) * 8192 + s.val
      omega)).trans ?_
  rw [val_main_v26_apply]
  unfold val_main_v25
  refine (shapeCast_apply _ shapeCasts_S4x8192x24_S4x8192x2x4x3 _
    (ix3 b s (⟨q.val * 12 + p.val % 4 * 3 + p.val / 4, by omega⟩ : Fin 24)) (by
      rw [Shape.rowMajor_val_three, Shape.rowMajor_val_five]
      show (b.val * 8192 + s.val) * 24 + (q.val * 12 + p.val % 4 * 3 + p.val / 4)
        = (((b.val * 8192 + s.val) * 2 + q.val) * 4 + p.val % 4) * 3 + p.val / 4
      omega)).trans ?_
  rw [val_main_v24_apply]
  refine Eq.trans (congrArg (val_main_v13 (F := Ideal) x g w) (funext fun a => ?_)) (ref_proj x g w b s _)
  match a with
  | ⟨0, _⟩ => rfl
  | ⟨1, _⟩ => rfl
  | ⟨2, _⟩ => exact Fin.ext (show 2816 + (q.val * 12 + p.val % 4 * 3 + p.val / 4) = 2816 + q.val * 12 + p.val % 4 * 3 + p.val / 4 by omega)

/-- The padding's value is zero. -/
theorem ref_pad (i : S_.Idx) : val_main_call0_v0 (F := Ideal) i = (0 : EReal) := by
  show (((0#32 : BitVec 32).toInt : ℝ) : EReal) = 0
  simp

/-- The gates before the sigmoid, padding rows being zero. -/
theorem ref_gate (b : Fin 4) (R : Fin 32) (s : Fin 8192) : val_main_v29 (F := Ideal) x g w (ix3 b R s) = gate x g w b R s := by
  unfold val_main_v29
  refine (shapeCast_apply _ shapeCasts_S4x2x16x8192_S4x32x8192 (ix3 b R s)
    (ix4 b (⟨R.val / 16, by omega⟩ : Fin 2) (⟨R.val % 16, by omega⟩ : Fin 16) s) (by
      rw [Shape.rowMajor_val_three, Shape.rowMajor_val_four]
      show ((b.val * 2 + R.val / 16) * 16 + R.val % 16) * 8192 + s.val = (b.val * 32 + R.val) * 8192 + s.val
      omega)).trans ?_
  unfold val_main_v28 gate
  split
  · rename_i h
    refine (pad_apply_of_inside _ _ _ (val_main_v27 (F := Ideal) x g w) _ pads_S4x2x12x8192_S4x2x16x8192_000_000_040_000 h_S_ _
      (ix4 b (⟨R.val / 16, by omega⟩ : Fin 2) (⟨R.val % 16, h⟩ : Fin 12) s) (fun a => ?_)).trans ?_
    · match a with
      | ⟨0, _⟩ => show b.val = 0 + b.val * (0 + 1); omega
      | ⟨1, _⟩ => show R.val / 16 = 0 + R.val / 16 * (0 + 1); omega
      | ⟨2, _⟩ => show R.val % 16 = 0 + R.val % 16 * (0 + 1); omega
      | ⟨3, _⟩ => show s.val = 0 + s.val * (0 + 1); omega
    · exact ref_gateRows x g w b _ _ s
  · rename_i h
    refine (pad_apply_of_not_inside _ _ _ (val_main_v27 (F := Ideal) x g w) _ pads_S4x2x12x8192_S4x2x16x8192_000_000_040_000 h_S_ _ (2 : Fin 4) ?_).trans (ref_pad _)
    show ¬(0 ≤ R.val % 16 ∧ (R.val % 16 - 0) % (0 + 1) = 0 ∧ (R.val % 16 - 0) / (0 + 1) < 12)
    omega

/-- The gates: the reference's 1 / (1 + exp(-y)) is the sigmoid. -/
theorem ref_v54 (b : Fin 4) (R : Fin 32) (s : Fin 8192) :
    val_main_v54 (F := Ideal) x g w (ix3 b R s) = Ideal.logistic (gate x g w b R s) := by
  rw [val_main_v54_apply, val_main_v53_apply, val_main_cst_5_apply, val_main_v52_apply, val_main_v51_apply, val_main_cst_4_apply,
    val_main_v50_apply, val_main_v49_apply, ref_gate]
  unfold Ideal.logistic
  exact congrArg₂ Ideal.div Ideal.ofBits_one_f32 (congrArg₂ (· + ·) Ideal.ofBits_one_f32 rfl)

end Cert.Proof.InProj
-- ==== Proof.InValue.lean ====
/- The in-projection's eleven results at the extended reals: each is the column of the projection its reference names, so the two
   programs agree. -/
module

public import proofs.«01_k».proof.Defs
public import proofs.«01_k».proof.Proof.InBlocks
public import proofs.«01_k».proof.Proof.InReference
public import proofs.«01_k».proof.Proof.Gen.Reference2Ideal.Run

@[expose] public section

set_option maxRecDepth 16384

noncomputable section

namespace Cert.Proof.InProj

open Cert.Kernel2Ideal Cert.Kernel2Ideal.Gen
open Idealize.ShloMosaic Idealize.ShloMosaic.ValueIdx
open Idealize.ShloMosaic.TcCoe Idealize.ShloMosaic.Tactic
open Idealize.ShloMosaic.Pipeline (Dat Cfg Window)

variable (m : (ℓ : Loc nD τ sig) → Buf (Elt Ideal) ℓ) (c : Dev nD)

/-- The main keys. -/
def want5 : S4x8192x512.Idx → EReal := fun i =>
  proj (inX m c) (inG m c) (inW m c) (i 0) (i 1) (⟨512 + (i 2).val, by have h : (i 2).val < 512 := (i 2).isLt; omega⟩ : Fin 2840)

/-- Where a point's main keys lie. -/
theorem place5 (t : Fin cfg0.N) (y : S1x512x512.Idx) :
    (((cfg0.win (5 : Fin 16)).blk t).view.emb y : S4x8192x512.Idx) = ix3 (seqOf t) (tokOf t (y 1)) (y 2) := by
  refine funext fun a => Fin.ext ?_
  match a with
  | ⟨0, _⟩ =>
    show win0_5.index t 0 * 1 + 1 * (y 0).val = t.val / 16
    rw [index5]
    have h : (y 0).val < 1 := (y 0).isLt
    show t.val / 16 * 1 + 1 * (y 0).val = t.val / 16
    omega
  | ⟨1, _⟩ =>
    show win0_5.index t 1 * 512 + 1 * (y 1).val = t.val % 16 * 512 + (y 1).val
    rw [index5]
    show t.val % 16 * 512 + 1 * (y 1).val = t.val % 16 * 512 + (y 1).val
    omega
  | ⟨2, _⟩ =>
    show win0_5.index t 2 * 512 + 1 * (y 2).val = (y 2).val
    rw [index5]
    show 0 * 512 + 1 * (y 2).val = (y 2).val
    omega

/-- The kernel leaves the main keys. -/
theorem arr5 : (dats m 0 c).arrAt 5 cfg0.N = want5 m c := by
  refine (dats m 0 c).arrAt_eq_of_covers (5 : Fin 16) (want5 m c) (by decide +kernel) (fun t _ y => ?_)
  refine Eq.trans (b := (dats m 0 c).after 5 t (y : S1x512x512.Idx)) rfl ?_
  refine Eq.trans ?_ (congrArg (want5 m c) (place5 t y)).symm
  rw [after0_5]
  refine Eq.trans ?_ (out5 m c t ((y : S1x512x512.Idx) 0) ((y : S1x512x512.Idx) 1) ((y : S1x512x512.Idx) 2))
  exact congrArg _ (funext fun a => match a with | ⟨0, _⟩ => rfl | ⟨1, _⟩ => rfl | ⟨2, _⟩ => rfl)

/-- The reference's are the same. -/
theorem ref5 : Cert.Reference2Ideal.Read.val_main_v39 (F := Ideal) (inX m c) (inG m c) (inW m c) = want5 m c := by
  funext i
  refine Eq.trans (congrArg _ (funext fun a => ?_)) (ref_v39 (inX m c) (inG m c) (inW m c) (i 0) (i 1) (i 2))
  match a with
  | ⟨0, _⟩ => rfl
  | ⟨1, _⟩ => rfl
  | ⟨2, _⟩ => rfl

/-- The compressed keys. -/
def want6 : S4x8192x128.Idx → EReal := fun i =>
  proj (inX m c) (inG m c) (inW m c) (i 0) (i 1) (⟨2048 + (i 2).val, by have h : (i 2).val < 128 := (i 2).isLt; omega⟩ : Fin 2840)

/-- Where a point's compressed keys lie. -/
theorem place6 (t : Fin cfg0.N) (y : S1x512x128.Idx) :
    (((cfg0.win (6 : Fin 16)).blk t).view.emb y : S4x8192x128.Idx) = ix3 (seqOf t) (tokOf t (y 1)) (y 2) := by
  refine funext fun a => Fin.ext ?_
  match a with
  | ⟨0, _⟩ =>
    show win0_6.index t 0 * 1 + 1 * (y 0).val = t.val / 16
    rw [index6]
    have h : (y 0).val < 1 := (y 0).isLt
    show t.val / 16 * 1 + 1 * (y 0).val = t.val / 16
    omega
  | ⟨1, _⟩ =>
    show win0_6.index t 1 * 512 + 1 * (y 1).val = t.val % 16 * 512 + (y 1).val
    rw [index6]
    show t.val % 16 * 512 + 1 * (y 1).val = t.val % 16 * 512 + (y 1).val
    omega
  | ⟨2, _⟩ =>
    show win0_6.index t 2 * 128 + 1 * (y 2).val = (y 2).val
    rw [index6]
    show 0 * 128 + 1 * (y 2).val = (y 2).val
    omega

/-- The kernel leaves the compressed keys. -/
theorem arr6 : (dats m 0 c).arrAt 6 cfg0.N = want6 m c := by
  refine (dats m 0 c).arrAt_eq_of_covers (6 : Fin 16) (want6 m c) (by decide +kernel) (fun t _ y => ?_)
  refine Eq.trans (b := (dats m 0 c).after 6 t (y : S1x512x128.Idx)) rfl ?_
  refine Eq.trans ?_ (congrArg (want6 m c) (place6 t y)).symm
  rw [after0_6]
  refine Eq.trans ?_ (out6 m c t ((y : S1x512x128.Idx) 0) ((y : S1x512x128.Idx) 1) ((y : S1x512x128.Idx) 2))
  exact congrArg _ (funext fun a => match a with | ⟨0, _⟩ => rfl | ⟨1, _⟩ => rfl | ⟨2, _⟩ => rfl)

/-- The reference's are the same. -/
theorem ref6 : Cert.Reference2Ideal.Read.val_main_v40 (F := Ideal) (inX m c) (inG m c) (inW m c) = want6 m c := by
  funext i
  refine Eq.trans (congrArg _ (funext fun a => ?_)) (ref_v40 (inX m c) (inG m c) (inW m c) (i 0) (i 1) (i 2))
  match a with
  | ⟨0, _⟩ => rfl
  | ⟨1, _⟩ => rfl
  | ⟨2, _⟩ => rfl

/-- The compressed values. -/
def want7 : S4x8192x128.Idx → EReal := fun i =>
  proj (inX m c) (inG m c) (inW m c) (i 0) (i 1) (⟨2176 + (i 2).val, by have h : (i 2).val < 128 := (i 2).isLt; omega⟩ : Fin 2840)

/-- Where a point's compressed values lie. -/
theorem place7 (t : Fin cfg0.N) (y : S1x512x128.Idx) :
    (((cfg0.win (7 : Fin 16)).blk t).view.emb y : S4x8192x128.Idx) = ix3 (seqOf t) (tokOf t (y 1)) (y 2) := by
  refine funext fun a => Fin.ext ?_
  match a with
  | ⟨0, _⟩ =>
    show win0_7.index t 0 * 1 + 1 * (y 0).val = t.val / 16
    rw [index7]
    have h : (y 0).val < 1 := (y 0).isLt
    show t.val / 16 * 1 + 1 * (y 0).val = t.val / 16
    omega
  | ⟨1, _⟩ =>
    show win0_7.index t 1 * 512 + 1 * (y 1).val = t.val % 16 * 512 + (y 1).val
    rw [index7]
    show t.val % 16 * 512 + 1 * (y 1).val = t.val % 16 * 512 + (y 1).val
    omega
  | ⟨2, _⟩ =>
    show win0_7.index t 2 * 128 + 1 * (y 2).val = (y 2).val
    rw [index7]
    show 0 * 128 + 1 * (y 2).val = (y 2).val
    omega

/-- The kernel leaves the compressed values. -/
theorem arr7 : (dats m 0 c).arrAt 7 cfg0.N = want7 m c := by
  refine (dats m 0 c).arrAt_eq_of_covers (7 : Fin 16) (want7 m c) (by decide +kernel) (fun t _ y => ?_)
  refine Eq.trans (b := (dats m 0 c).after 7 t (y : S1x512x128.Idx)) rfl ?_
  refine Eq.trans ?_ (congrArg (want7 m c) (place7 t y)).symm
  rw [after0_7]
  refine Eq.trans ?_ (out7 m c t ((y : S1x512x128.Idx) 0) ((y : S1x512x128.Idx) 1) ((y : S1x512x128.Idx) 2))
  exact congrArg _ (funext fun a => match a with | ⟨0, _⟩ => rfl | ⟨1, _⟩ => rfl | ⟨2, _⟩ => rfl)

/-- The reference's are the same. -/
theorem ref7 : Cert.Reference2Ideal.Read.val_main_v41 (F := Ideal) (inX m c) (inG m c) (inW m c) = want7 m c := by
  funext i
  refine Eq.trans (congrArg _ (funext fun a => ?_)) (ref_v41 (inX m c) (inG m c) (inW m c) (i 0) (i 1) (i 2))
  match a with
  | ⟨0, _⟩ => rfl
  | ⟨1, _⟩ => rfl
  | ⟨2, _⟩ => rfl

/-- The selected keys. -/
def want8 : S4x8192x128.Idx → EReal := fun i =>
  proj (inX m c) (inG m c) (inW m c) (i 0) (i 1) (⟨2304 + (i 2).val, by have h : (i 2).val < 128 := (i 2).isLt; omega⟩ : Fin 2840)

/-- Where a point's selected keys lie. -/
theorem place8 (t : Fin cfg0.N) (y : S1x512x128.Idx) :
    (((cfg0.win (8 : Fin 16)).blk t).view.emb y : S4x8192x128.Idx) = ix3 (seqOf t) (tokOf t (y 1)) (y 2) := by
  refine funext fun a => Fin.ext ?_
  match a with
  | ⟨0, _⟩ =>
    show win0_8.index t 0 * 1 + 1 * (y 0).val = t.val / 16
    rw [index8]
    have h : (y 0).val < 1 := (y 0).isLt
    show t.val / 16 * 1 + 1 * (y 0).val = t.val / 16
    omega
  | ⟨1, _⟩ =>
    show win0_8.index t 1 * 512 + 1 * (y 1).val = t.val % 16 * 512 + (y 1).val
    rw [index8]
    show t.val % 16 * 512 + 1 * (y 1).val = t.val % 16 * 512 + (y 1).val
    omega
  | ⟨2, _⟩ =>
    show win0_8.index t 2 * 128 + 1 * (y 2).val = (y 2).val
    rw [index8]
    show 0 * 128 + 1 * (y 2).val = (y 2).val
    omega

/-- The kernel leaves the selected keys. -/
theorem arr8 : (dats m 0 c).arrAt 8 cfg0.N = want8 m c := by
  refine (dats m 0 c).arrAt_eq_of_covers (8 : Fin 16) (want8 m c) (by decide +kernel) (fun t _ y => ?_)
  refine Eq.trans (b := (dats m 0 c).after 8 t (y : S1x512x128.Idx)) rfl ?_
  refine Eq.trans ?_ (congrArg (want8 m c) (place8 t y)).symm
  rw [after0_8]
  refine Eq.trans ?_ (out8 m c t ((y : S1x512x128.Idx) 0) ((y : S1x512x128.Idx) 1) ((y : S1x512x128.Idx) 2))
  exact congrArg _ (funext fun a => match a with | ⟨0, _⟩ => rfl | ⟨1, _⟩ => rfl | ⟨2, _⟩ => rfl)

/-- The reference's are the same. -/
theorem ref8 : Cert.Reference2Ideal.Read.val_main_v42 (F := Ideal) (inX m c) (inG m c) (inW m c) = want8 m c := by
  funext i
  refine Eq.trans (congrArg _ (funext fun a => ?_)) (ref_v42 (inX m c) (inG m c) (inW m c) (i 0) (i 1) (i 2))
  match a with
  | ⟨0, _⟩ => rfl
  | ⟨1, _⟩ => rfl
  | ⟨2, _⟩ => rfl

/-- The window's keys. -/
def want9 : S4x8192x128.Idx → EReal := fun i =>
  proj (inX m c) (inG m c) (inW m c) (i 0) (i 1) (⟨2560 + (i 2).val, by have h : (i 2).val < 128 := (i 2).isLt; omega⟩ : Fin 2840)

/-- Where a point's window's keys lie. -/
theorem place9 (t : Fin cfg0.N) (y : S1x512x128.Idx) :
    (((cfg0.win (9 : Fin 16)).blk t).view.emb y : S4x8192x128.Idx) = ix3 (seqOf t) (tokOf t (y 1)) (y 2) := by
  refine funext fun a => Fin.ext ?_
  match a with
  | ⟨0, _⟩ =>
    show win0_9.index t 0 * 1 + 1 * (y 0).val = t.val / 16
    rw [index9]
    have h : (y 0).val < 1 := (y 0).isLt
    show t.val / 16 * 1 + 1 * (y 0).val = t.val / 16
    omega
  | ⟨1, _⟩ =>
    show win0_9.index t 1 * 512 + 1 * (y 1).val = t.val % 16 * 512 + (y 1).val
    rw [index9]
    show t.val % 16 * 512 + 1 * (y 1).val = t.val % 16 * 512 + (y 1).val
    omega
  | ⟨2, _⟩ =>
    show win0_9.index t 2 * 128 + 1 * (y 2).val = (y 2).val
    rw [index9]
    show 0 * 128 + 1 * (y 2).val = (y 2).val
    omega

/-- The kernel leaves the window's keys. -/
theorem arr9 : (dats m 0 c).arrAt 9 cfg0.N = want9 m c := by
  refine (dats m 0 c).arrAt_eq_of_covers (9 : Fin 16) (want9 m c) (by decide +kernel) (fun t _ y => ?_)
  refine Eq.trans (b := (dats m 0 c).after 9 t (y : S1x512x128.Idx)) rfl ?_
  refine Eq.trans ?_ (congrArg (want9 m c) (place9 t y)).symm
  rw [after0_9]
  refine Eq.trans ?_ (out9 m c t ((y : S1x512x128.Idx) 0) ((y : S1x512x128.Idx) 1) ((y : S1x512x128.Idx) 2))
  exact congrArg _ (funext fun a => match a with | ⟨0, _⟩ => rfl | ⟨1, _⟩ => rfl | ⟨2, _⟩ => rfl)

/-- The reference's are the same. -/
theorem ref9 : Cert.Reference2Ideal.Read.val_main_v43 (F := Ideal) (inX m c) (inG m c) (inW m c) = want9 m c := by
  funext i
  refine Eq.trans (congrArg _ (funext fun a => ?_)) (ref_v43 (inX m c) (inG m c) (inW m c) (i 0) (i 1) (i 2))
  match a with
  | ⟨0, _⟩ => rfl
  | ⟨1, _⟩ => rfl
  | ⟨2, _⟩ => rfl

/-- The main queries, scaled. -/
def want10 : S4x512x8192.Idx → EReal := fun i =>
  proj (inX m c) (inG m c) (inW m c) (i 0) (i 2) (⟨0 + (i 1).val, by have h : (i 1).val < 512 := (i 1).isLt; omega⟩ : Fin 2840) * qscale

/-- Where a point's main queries lie. -/
theorem place10 (t : Fin cfg0.N) (y : S1x512x512.Idx) :
    (((cfg0.win (10 : Fin 16)).blk t).view.emb y : S4x512x8192.Idx) = ix3 (seqOf t) (y 1) (tokOf t (y 2)) := by
  refine funext fun a => Fin.ext ?_
  match a with
  | ⟨0, _⟩ =>
    show win0_10.index t 0 * 1 + 1 * (y 0).val = t.val / 16
    rw [index10]
    have h : (y 0).val < 1 := (y 0).isLt
    show t.val / 16 * 1 + 1 * (y 0).val = t.val / 16
    omega
  | ⟨1, _⟩ =>
    show win0_10.index t 1 * 512 + 1 * (y 1).val = (y 1).val
    rw [index10]
    show 0 * 512 + 1 * (y 1).val = (y 1).val
    omega
  | ⟨2, _⟩ =>
    show win0_10.index t 2 * 512 + 1 * (y 2).val = t.val % 16 * 512 + (y 2).val
    rw [index10]
    show t.val % 16 * 512 + 1 * (y 2).val = t.val % 16 * 512 + (y 2).val
    omega

/-- The kernel leaves the main queries. -/
theorem arr10 : (dats m 0 c).arrAt 10 cfg0.N = want10 m c := by
  refine (dats m 0 c).arrAt_eq_of_covers (10 : Fin 16) (want10 m c) (by decide +kernel) (fun t _ y => ?_)
  refine Eq.trans (b := (dats m 0 c).after 10 t (y : S1x512x512.Idx)) rfl ?_
  refine Eq.trans ?_ (congrArg (want10 m c) (place10 t y)).symm
  rw [after0_10]
  refine Eq.trans ?_ (out10 m c t ((y : S1x512x512.Idx) 0) ((y : S1x512x512.Idx) 1) ((y : S1x512x512.Idx) 2))
  exact congrArg _ (funext fun a => match a with | ⟨0, _⟩ => rfl | ⟨1, _⟩ => rfl | ⟨2, _⟩ => rfl)

/-- The reference's are the same. -/
theorem ref10 : Cert.Reference2Ideal.Read.val_main_v44 (F := Ideal) (inX m c) (inG m c) (inW m c) = want10 m c := by
  funext i
  refine Eq.trans (congrArg _ (funext fun a => ?_)) (ref_v44 (inX m c) (inG m c) (inW m c) (i 0) (i 1) (i 2))
  match a with
  | ⟨0, _⟩ => rfl
  | ⟨1, _⟩ => rfl
  | ⟨2, _⟩ => rfl

/-- The main values. -/
def want11 : S4x512x8192.Idx → EReal := fun i =>
  proj (inX m c) (inG m c) (inW m c) (i 0) (i 2) (⟨1024 + (i 1).val, by have h : (i 1).val < 512 := (i 1).isLt; omega⟩ : Fin 2840)

/-- Where a point's main values lie. -/
theorem place11 (t : Fin cfg0.N) (y : S1x512x512.Idx) :
    (((cfg0.win (11 : Fin 16)).blk t).view.emb y : S4x512x8192.Idx) = ix3 (seqOf t) (y 1) (tokOf t (y 2)) := by
  refine funext fun a => Fin.ext ?_
  match a with
  | ⟨0, _⟩ =>
    show win0_11.index t 0 * 1 + 1 * (y 0).val = t.val / 16
    rw [index11]
    have h : (y 0).val < 1 := (y 0).isLt
    show t.val / 16 * 1 + 1 * (y 0).val = t.val / 16
    omega
  | ⟨1, _⟩ =>
    show win0_11.index t 1 * 512 + 1 * (y 1).val = (y 1).val
    rw [index11]
    show 0 * 512 + 1 * (y 1).val = (y 1).val
    omega
  | ⟨2, _⟩ =>
    show win0_11.index t 2 * 512 + 1 * (y 2).val = t.val % 16 * 512 + (y 2).val
    rw [index11]
    show t.val % 16 * 512 + 1 * (y 2).val = t.val % 16 * 512 + (y 2).val
    omega

/-- The kernel leaves the main values. -/
theorem arr11 : (dats m 0 c).arrAt 11 cfg0.N = want11 m c := by
  refine (dats m 0 c).arrAt_eq_of_covers (11 : Fin 16) (want11 m c) (by decide +kernel) (fun t _ y => ?_)
  refine Eq.trans (b := (dats m 0 c).after 11 t (y : S1x512x512.Idx)) rfl ?_
  refine Eq.trans ?_ (congrArg (want11 m c) (place11 t y)).symm
  rw [after0_11]
  refine Eq.trans ?_ (out11 m c t ((y : S1x512x512.Idx) 0) ((y : S1x512x512.Idx) 1) ((y : S1x512x512.Idx) 2))
  exact congrArg _ (funext fun a => match a with | ⟨0, _⟩ => rfl | ⟨1, _⟩ => rfl | ⟨2, _⟩ => rfl)

/-- The reference's are the same. -/
theorem ref11 : Cert.Reference2Ideal.Read.val_main_v45 (F := Ideal) (inX m c) (inG m c) (inW m c) = want11 m c := by
  funext i
  refine Eq.trans (congrArg _ (funext fun a => ?_)) (ref_v45 (inX m c) (inG m c) (inW m c) (i 0) (i 1) (i 2))
  match a with
  | ⟨0, _⟩ => rfl
  | ⟨1, _⟩ => rfl
  | ⟨2, _⟩ => rfl

/-- The other queries, scaled. -/
def want12 : S4x512x8192.Idx → EReal := fun i =>
  proj (inX m c) (inG m c) (inW m c) (i 0) (i 2) (⟨1536 + (i 1).val, by have h : (i 1).val < 512 := (i 1).isLt; omega⟩ : Fin 2840) * qscale

/-- Where a point's other queries lie. -/
theorem place12 (t : Fin cfg0.N) (y : S1x512x512.Idx) :
    (((cfg0.win (12 : Fin 16)).blk t).view.emb y : S4x512x8192.Idx) = ix3 (seqOf t) (y 1) (tokOf t (y 2)) := by
  refine funext fun a => Fin.ext ?_
  match a with
  | ⟨0, _⟩ =>
    show win0_12.index t 0 * 1 + 1 * (y 0).val = t.val / 16
    rw [index12]
    have h : (y 0).val < 1 := (y 0).isLt
    show t.val / 16 * 1 + 1 * (y 0).val = t.val / 16
    omega
  | ⟨1, _⟩ =>
    show win0_12.index t 1 * 512 + 1 * (y 1).val = (y 1).val
    rw [index12]
    show 0 * 512 + 1 * (y 1).val = (y 1).val
    omega
  | ⟨2, _⟩ =>
    show win0_12.index t 2 * 512 + 1 * (y 2).val = t.val % 16 * 512 + (y 2).val
    rw [index12]
    show t.val % 16 * 512 + 1 * (y 2).val = t.val % 16 * 512 + (y 2).val
    omega

/-- The kernel leaves the other queries. -/
theorem arr12 : (dats m 0 c).arrAt 12 cfg0.N = want12 m c := by
  refine (dats m 0 c).arrAt_eq_of_covers (12 : Fin 16) (want12 m c) (by decide +kernel) (fun t _ y => ?_)
  refine Eq.trans (b := (dats m 0 c).after 12 t (y : S1x512x512.Idx)) rfl ?_
  refine Eq.trans ?_ (congrArg (want12 m c) (place12 t y)).symm
  rw [after0_12]
  refine Eq.trans ?_ (out12 m c t ((y : S1x512x512.Idx) 0) ((y : S1x512x512.Idx) 1) ((y : S1x512x512.Idx) 2))
  exact congrArg _ (funext fun a => match a with | ⟨0, _⟩ => rfl | ⟨1, _⟩ => rfl | ⟨2, _⟩ => rfl)

/-- The reference's are the same. -/
theorem ref12 : Cert.Reference2Ideal.Read.val_main_v46 (F := Ideal) (inX m c) (inG m c) (inW m c) = want12 m c := by
  funext i
  refine Eq.trans (congrArg _ (funext fun a => ?_)) (ref_v46 (inX m c) (inG m c) (inW m c) (i 0) (i 1) (i 2))
  match a with
  | ⟨0, _⟩ => rfl
  | ⟨1, _⟩ => rfl
  | ⟨2, _⟩ => rfl

/-- The selected values. -/
def want13 : S4x128x8192.Idx → EReal := fun i =>
  proj (inX m c) (inG m c) (inW m c) (i 0) (i 2) (⟨2432 + (i 1).val, by have h : (i 1).val < 128 := (i 1).isLt; omega⟩ : Fin 2840)

/-- Where a point's selected values lie. -/
theorem place13 (t : Fin cfg0.N) (y : S1x128x512.Idx) :
    (((cfg0.win (13 : Fin 16)).blk t).view.emb y : S4x128x8192.Idx) = ix3 (seqOf t) (y 1) (tokOf t (y 2)) := by
  refine funext fun a => Fin.ext ?_
  match a with
  | ⟨0, _⟩ =>
    show win0_13.index t 0 * 1 + 1 * (y 0).val = t.val / 16
    rw [index13]
    have h : (y 0).val < 1 := (y 0).isLt
    show t.val / 16 * 1 + 1 * (y 0).val = t.val / 16
    omega
  | ⟨1, _⟩ =>
    show win0_13.index t 1 * 128 + 1 * (y 1).val = (y 1).val
    rw [index13]
    show 0 * 128 + 1 * (y 1).val = (y 1).val
    omega
  | ⟨2, _⟩ =>
    show win0_13.index t 2 * 512 + 1 * (y 2).val = t.val % 16 * 512 + (y 2).val
    rw [index13]
    show t.val % 16 * 512 + 1 * (y 2).val = t.val % 16 * 512 + (y 2).val
    omega

/-- The kernel leaves the selected values. -/
theorem arr13 : (dats m 0 c).arrAt 13 cfg0.N = want13 m c := by
  refine (dats m 0 c).arrAt_eq_of_covers (13 : Fin 16) (want13 m c) (by decide +kernel) (fun t _ y => ?_)
  refine Eq.trans (b := (dats m 0 c).after 13 t (y : S1x128x512.Idx)) rfl ?_
  refine Eq.trans ?_ (congrArg (want13 m c) (place13 t y)).symm
  rw [after0_13]
  refine Eq.trans ?_ (out13 m c t ((y : S1x128x512.Idx) 0) ((y : S1x128x512.Idx) 1) ((y : S1x128x512.Idx) 2))
  exact congrArg _ (funext fun a => match a with | ⟨0, _⟩ => rfl | ⟨1, _⟩ => rfl | ⟨2, _⟩ => rfl)

/-- The reference's are the same. -/
theorem ref13 : Cert.Reference2Ideal.Read.val_main_v47 (F := Ideal) (inX m c) (inG m c) (inW m c) = want13 m c := by
  funext i
  refine Eq.trans (congrArg _ (funext fun a => ?_)) (ref_v47 (inX m c) (inG m c) (inW m c) (i 0) (i 1) (i 2))
  match a with
  | ⟨0, _⟩ => rfl
  | ⟨1, _⟩ => rfl
  | ⟨2, _⟩ => rfl

/-- The window's values. -/
def want14 : S4x128x8192.Idx → EReal := fun i =>
  proj (inX m c) (inG m c) (inW m c) (i 0) (i 2) (⟨2688 + (i 1).val, by have h : (i 1).val < 128 := (i 1).isLt; omega⟩ : Fin 2840)

/-- Where a point's window's values lie. -/
theorem place14 (t : Fin cfg0.N) (y : S1x128x512.Idx) :
    (((cfg0.win (14 : Fin 16)).blk t).view.emb y : S4x128x8192.Idx) = ix3 (seqOf t) (y 1) (tokOf t (y 2)) := by
  refine funext fun a => Fin.ext ?_
  match a with
  | ⟨0, _⟩ =>
    show win0_14.index t 0 * 1 + 1 * (y 0).val = t.val / 16
    rw [index14]
    have h : (y 0).val < 1 := (y 0).isLt
    show t.val / 16 * 1 + 1 * (y 0).val = t.val / 16
    omega
  | ⟨1, _⟩ =>
    show win0_14.index t 1 * 128 + 1 * (y 1).val = (y 1).val
    rw [index14]
    show 0 * 128 + 1 * (y 1).val = (y 1).val
    omega
  | ⟨2, _⟩ =>
    show win0_14.index t 2 * 512 + 1 * (y 2).val = t.val % 16 * 512 + (y 2).val
    rw [index14]
    show t.val % 16 * 512 + 1 * (y 2).val = t.val % 16 * 512 + (y 2).val
    omega

/-- The kernel leaves the window's values. -/
theorem arr14 : (dats m 0 c).arrAt 14 cfg0.N = want14 m c := by
  refine (dats m 0 c).arrAt_eq_of_covers (14 : Fin 16) (want14 m c) (by decide +kernel) (fun t _ y => ?_)
  refine Eq.trans (b := (dats m 0 c).after 14 t (y : S1x128x512.Idx)) rfl ?_
  refine Eq.trans ?_ (congrArg (want14 m c) (place14 t y)).symm
  rw [after0_14]
  refine Eq.trans ?_ (out14 m c t ((y : S1x128x512.Idx) 0) ((y : S1x128x512.Idx) 1) ((y : S1x128x512.Idx) 2))
  exact congrArg _ (funext fun a => match a with | ⟨0, _⟩ => rfl | ⟨1, _⟩ => rfl | ⟨2, _⟩ => rfl)

/-- The reference's are the same. -/
theorem ref14 : Cert.Reference2Ideal.Read.val_main_v48 (F := Ideal) (inX m c) (inG m c) (inW m c) = want14 m c := by
  funext i
  refine Eq.trans (congrArg _ (funext fun a => ?_)) (ref_v48 (inX m c) (inG m c) (inW m c) (i 0) (i 1) (i 2))
  match a with
  | ⟨0, _⟩ => rfl
  | ⟨1, _⟩ => rfl
  | ⟨2, _⟩ => rfl

/-- The gates. -/
def want15 : S4x32x8192.Idx → EReal := fun i =>
  Ideal.logistic (gate (inX m c) (inG m c) (inW m c) (i 0) (i 1) (i 2))

/-- Where a point's gates lie. -/
theorem place15 (t : Fin cfg0.N) (y : S1x32x512.Idx) :
    (((cfg0.win (15 : Fin 16)).blk t).view.emb y : S4x32x8192.Idx) = ix3 (seqOf t) (y 1) (tokOf t (y 2)) := by
  refine funext fun a => Fin.ext ?_
  match a with
  | ⟨0, _⟩ =>
    show win0_15.index t 0 * 1 + 1 * (y 0).val = t.val / 16
    rw [index15]
    have h : (y 0).val < 1 := (y 0).isLt
    show t.val / 16 * 1 + 1 * (y 0).val = t.val / 16
    omega
  | ⟨1, _⟩ =>
    show win0_15.index t 1 * 32 + 1 * (y 1).val = (y 1).val
    rw [index15]
    show 0 * 32 + 1 * (y 1).val = (y 1).val
    omega
  | ⟨2, _⟩ =>
    show win0_15.index t 2 * 512 + 1 * (y 2).val = t.val % 16 * 512 + (y 2).val
    rw [index15]
    show t.val % 16 * 512 + 1 * (y 2).val = t.val % 16 * 512 + (y 2).val
    omega

/-- The kernel leaves the gates. -/
theorem arr15 : (dats m 0 c).arrAt 15 cfg0.N = want15 m c := by
  refine (dats m 0 c).arrAt_eq_of_covers (15 : Fin 16) (want15 m c) (by decide +kernel) (fun t _ y => ?_)
  refine Eq.trans (b := (dats m 0 c).after 15 t (y : S1x32x512.Idx)) rfl ?_
  refine Eq.trans ?_ (congrArg (want15 m c) (place15 t y)).symm
  rw [after0_15]
  refine Eq.trans ?_ (out15 m c t ((y : S1x32x512.Idx) 0) ((y : S1x32x512.Idx) 1) ((y : S1x32x512.Idx) 2))
  exact congrArg _ (funext fun a => match a with | ⟨0, _⟩ => rfl | ⟨1, _⟩ => rfl | ⟨2, _⟩ => rfl)

/-- The reference's are the same. -/
theorem ref15 : Cert.Reference2Ideal.Read.val_main_v54 (F := Ideal) (inX m c) (inG m c) (inW m c) = want15 m c := by
  funext i
  refine Eq.trans (congrArg _ (funext fun a => ?_)) (ref_v54 (inX m c) (inG m c) (inW m c) (i 0) (i 1) (i 2))
  match a with
  | ⟨0, _⟩ => rfl
  | ⟨1, _⟩ => rfl
  | ⟨2, _⟩ => rfl

end Cert.Proof.InProj

namespace Cert.Proof.InProj

open Idealize.ShloMosaic Idealize.ShloMosaic.TcCoe Idealize.SL.Sem

section
variable (m : (ℓ : Loc Cert.Kernel2Ideal.nD Cert.Kernel2Ideal.τ Cert.Kernel2Ideal.sig) → Buf (Elt Ideal) ℓ) (c : Dev Cert.Kernel2Ideal.nD)
  (m' : (ℓ : Loc Cert.Reference2Ideal.nD Cert.Reference2Ideal.τ Cert.Reference2Ideal.sig) → Buf (Elt Ideal) ℓ)

/-- The two memories hold the same arguments. -/
abbrev Same : Prop :=
  m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
  ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
  ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)

/-- Result 0 of the reference, from the same arguments. -/
theorem res5 (h : Same m c m') : Cert.Reference2Ideal.Read.val_main_v39 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want5 m c := by
  obtain ⟨e0, e1, e2⟩ := h
  rw [e0, e1, e2]
  exact ref5 m c

/-- Result 1 of the reference, from the same arguments. -/
theorem res6 (h : Same m c m') : Cert.Reference2Ideal.Read.val_main_v40 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want6 m c := by
  obtain ⟨e0, e1, e2⟩ := h
  rw [e0, e1, e2]
  exact ref6 m c

/-- Result 2 of the reference, from the same arguments. -/
theorem res7 (h : Same m c m') : Cert.Reference2Ideal.Read.val_main_v41 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want7 m c := by
  obtain ⟨e0, e1, e2⟩ := h
  rw [e0, e1, e2]
  exact ref7 m c

/-- Result 3 of the reference, from the same arguments. -/
theorem res8 (h : Same m c m') : Cert.Reference2Ideal.Read.val_main_v42 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want8 m c := by
  obtain ⟨e0, e1, e2⟩ := h
  rw [e0, e1, e2]
  exact ref8 m c

/-- Result 4 of the reference, from the same arguments. -/
theorem res9 (h : Same m c m') : Cert.Reference2Ideal.Read.val_main_v43 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want9 m c := by
  obtain ⟨e0, e1, e2⟩ := h
  rw [e0, e1, e2]
  exact ref9 m c

/-- Result 5 of the reference, from the same arguments. -/
theorem res10 (h : Same m c m') : Cert.Reference2Ideal.Read.val_main_v44 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want10 m c := by
  obtain ⟨e0, e1, e2⟩ := h
  rw [e0, e1, e2]
  exact ref10 m c

/-- Result 6 of the reference, from the same arguments. -/
theorem res11 (h : Same m c m') : Cert.Reference2Ideal.Read.val_main_v45 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want11 m c := by
  obtain ⟨e0, e1, e2⟩ := h
  rw [e0, e1, e2]
  exact ref11 m c

/-- Result 7 of the reference, from the same arguments. -/
theorem res12 (h : Same m c m') : Cert.Reference2Ideal.Read.val_main_v46 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want12 m c := by
  obtain ⟨e0, e1, e2⟩ := h
  rw [e0, e1, e2]
  exact ref12 m c

/-- Result 8 of the reference, from the same arguments. -/
theorem res13 (h : Same m c m') : Cert.Reference2Ideal.Read.val_main_v47 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want13 m c := by
  obtain ⟨e0, e1, e2⟩ := h
  rw [e0, e1, e2]
  exact ref13 m c

/-- Result 9 of the reference, from the same arguments. -/
theorem res14 (h : Same m c m') : Cert.Reference2Ideal.Read.val_main_v48 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want14 m c := by
  obtain ⟨e0, e1, e2⟩ := h
  rw [e0, e1, e2]
  exact ref14 m c

/-- Result 10 of the reference, from the same arguments. -/
theorem res15 (h : Same m c m') : Cert.Reference2Ideal.Read.val_main_v54 (F := Ideal)
      (m' ((c.tc : Thread Cert.Reference2Ideal.nD Cert.Reference2Ideal.τ).loc Cert.Reference2Ideal.main_arg0))
      (m' ((c.tc : Thread Cert.Reference2Ideal.nD Cert.Reference2Ideal.τ).loc Cert.Reference2Ideal.main_arg1))
      (m' ((c.tc : Thread Cert.Reference2Ideal.nD Cert.Reference2Ideal.τ).loc Cert.Reference2Ideal.main_arg2)) = want15 m c := by
  obtain ⟨e0, e1, e2⟩ := h
  rw [e0, e1, e2]
  exact ref15 m c

end

/-- The ideal kernel and the reference end with equal results, all eleven. -/
theorem inproj_agree : Cert.algebraic_Kernel2Ideal_Reference2Ideal := fun m g m' g' _ hm =>
  ⟨fun c => want5 m c, fun c => want6 m c, fun c => want7 m c, fun c => want8 m c, fun c => want9 m c, fun c => want10 m c, fun c => want11 m c, fun c => want12 m c, fun c => want13 m c, fun c => want14 m c, fun c => want15 m c,
    (θ_run Cert.Kernel2Ideal.defs _ _).mono (fun _ h c => ⟨((h c).1).trans (arr5 m c),
        ((h c).2.1).trans (arr6 m c),
        ((h c).2.2.1).trans (arr7 m c),
        ((h c).2.2.2.1).trans (arr8 m c),
        ((h c).2.2.2.2.1).trans (arr9 m c),
        ((h c).2.2.2.2.2.1).trans (arr10 m c),
        ((h c).2.2.2.2.2.2.1).trans (arr11 m c),
        ((h c).2.2.2.2.2.2.2.1).trans (arr12 m c),
        ((h c).2.2.2.2.2.2.2.2.1).trans (arr13 m c),
        ((h c).2.2.2.2.2.2.2.2.2.1).trans (arr14 m c),
        ((h c).2.2.2.2.2.2.2.2.2.2.1).trans (arr15 m c), (h c).2.2.2.2.2.2.2.2.2.2.2⟩)
      (Cert.Kernel2Ideal.Value.run_blocks m g),
    (θ_run Cert.Reference2Ideal.defs _ _).mono (fun _ h c => ⟨((h c).1).trans (by rw [Cert.Reference2Ideal.Read.val_main_v39_eq]; exact res5 m c m' (hm c)),
        ((h c).2.1).trans (by rw [Cert.Reference2Ideal.Read.val_main_v40_eq]; exact res6 m c m' (hm c)),
        ((h c).2.2.1).trans (by rw [Cert.Reference2Ideal.Read.val_main_v41_eq]; exact res7 m c m' (hm c)),
        ((h c).2.2.2.1).trans (by rw [Cert.Reference2Ideal.Read.val_main_v42_eq]; exact res8 m c m' (hm c)),
        ((h c).2.2.2.2.1).trans (by rw [Cert.Reference2Ideal.Read.val_main_v43_eq]; exact res9 m c m' (hm c)),
        ((h c).2.2.2.2.2.1).trans (by rw [Cert.Reference2Ideal.Read.val_main_v44_eq]; exact res10 m c m' (hm c)),
        ((h c).2.2.2.2.2.2.1).trans (by rw [Cert.Reference2Ideal.Read.val_main_v45_eq]; exact res11 m c m' (hm c)),
        ((h c).2.2.2.2.2.2.2.1).trans (by rw [Cert.Reference2Ideal.Read.val_main_v46_eq]; exact res12 m c m' (hm c)),
        ((h c).2.2.2.2.2.2.2.2.1).trans (by rw [Cert.Reference2Ideal.Read.val_main_v47_eq]; exact res13 m c m' (hm c)),
        ((h c).2.2.2.2.2.2.2.2.2.1).trans (by rw [Cert.Reference2Ideal.Read.val_main_v48_eq]; exact res14 m c m' (hm c)),
        ((h c).2.2.2.2.2.2.2.2.2.2.1).trans (by rw [Cert.Reference2Ideal.Read.val_main_v54_eq]; exact res15 m c m' (hm c)), (h c).2.2.2.2.2.2.2.2.2.2.2⟩)
      (Cert.Reference2Ideal.Value.run m' g')⟩

end Cert.Proof.InProj
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Frames
public import proofs.«01_k».proof.Proof.Value
public import proofs.«01_k».proof.Proof.InFrames
public import proofs.«01_k».proof.Proof.InValue

@[expose] public section

noncomputable section

namespace Cert.Proof

/-- The certificate's claim, of the experts' call and of the in-projection's: each one's three frames, its ideal kernel being the kernel
with no rewrite, and its agreeing with its reference. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Experts.frame_kernel, Experts.frame_ideal, Experts.frame_reference,
  InProj.frame_kernel, InProj.frame_ideal, InProj.frame_reference,
  trivial, Experts.experts_agree, trivial, InProj.inproj_agree⟩

end Cert.Proof

end
